-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨4, ![2, 256, 8, 64]⟩ ⟨4, ![2, 1024, 8, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  main_v8
-- ==== Pre_scores_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .f32 := Host.absf main_arg1
  let main_cst_0 : FVec F S_ .f32 := constant S_ .f32 0x7F800000#32
  let main_v5 : FVec F S2x1024x8x64 .f32 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Kernel.lean ====
abbrev S2x256x8x64 : Shape := ⟨4, ![2, 256, 8, 64]⟩
abbrev S2x8x256x64 : Shape := ⟨4, ![2, 8, 256, 64]⟩
abbrev S16x256x64 : Shape := ⟨3, ![16, 256, 64]⟩
abbrev S32x256x64 : Shape := ⟨3, ![32, 256, 64]⟩
abbrev S4x32x256x64 : Shape := ⟨4, ![4, 32, 256, 64]⟩
abbrev S3 : Shape := ⟨1, ![3]⟩
abbrev S_ : Shape := ⟨0, ![]⟩
abbrev S1x32x256x64 : Shape := ⟨4, ![1, 32, 256, 64]⟩
abbrev S1 : Shape := ⟨1, ![1]⟩
abbrev S16x256x1 : Shape := ⟨3, ![16, 256, 1]⟩
abbrev S1x16x256x64 : Shape := ⟨4, ![1, 16, 256, 64]⟩
abbrev S16x256x256 : Shape := ⟨3, ![16, 256, 256]⟩
abbrev S16x256 : Shape := ⟨2, ![16, 256]⟩

abbrev nBuf : Space → Nat
  | .hbm => 13
  | .vmem => 4
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x256x64, .f32⟩
  | .hbm, ⟨4, _⟩ => ⟨S16x256x64, .f32⟩
  | .hbm, ⟨5, _⟩ => ⟨S2x8x256x64, .f32⟩
  | .hbm, ⟨6, _⟩ => ⟨S16x256x64, .f32⟩
  | .hbm, ⟨7, _⟩ => ⟨S2x8x256x64, .f32⟩
  | .hbm, ⟨8, _⟩ => ⟨S16x256x64, .f32⟩
  | .hbm, ⟨9, _⟩ => ⟨S32x256x64, .f32⟩
  | .hbm, ⟨10, _⟩ => ⟨S16x256x64, .f32⟩
  | .hbm, ⟨11, _⟩ => ⟨S2x8x256x64, .f32⟩
  | .hbm, ⟨12, _⟩ => ⟨S2x256x8x64, .f32⟩
  | .local _ .vmem, ⟨0, _⟩ => ⟨S16x256x64, .f32⟩
  | .local _ .vmem, ⟨1, _⟩ => ⟨S32x256x64, .f32⟩
  | .local _ .vmem, ⟨2, _⟩ => ⟨S16x256x64, .f32⟩
  | .local _ .vmem, ⟨3, _⟩ => ⟨S4x32x256x64, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : Index := Scalar.indexCast v2
  let c0_12 : Index := 0#32
  let c0_13 : Index := 0#32
  let c0_14 : Index := 0#32
  ![v15.toNat, 0, 0, 0]
def k0_off2 (d0 : Dev nD) (c0_i32_15 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_15
  let c4_i32_16 : BitVec 32 := 4#32
  let v20 : BitVec 32 := Scalar.addi v19 c4_i32_16
  let c4_i32_17 : BitVec 32 := 4#32
  let v21 : BitVec 32 := Scalar.remsi v20 c4_i32_17
  let c0_i32_22 : BitVec 32 := 0#32
  let c0_i32_23 : BitVec 32 := 0#32
  let c0_i32_24 : BitVec 32 := 0#32
  ![v21.toNat, 0, 0, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_20 : BitVec 32 := 1#32
  let v22 : BitVec 32 := Scalar.muli v7 c1_i32_20
  let v23 : BitVec 32 := Scalar.addi c0_i32_21 v22
  v23.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v49 : BitVec 32 := Scalar.muli v7 c1_i32_52
  let v50 : BitVec 32 := Scalar.addi c0_i32_53 v49
  v50.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_84 : BitVec 32 := 1#32
  let v76 : BitVec 32 := Scalar.muli v7 c1_i32_84
  let v77 : BitVec 32 := Scalar.addi c0_i32_85 v76
  v77.toNat
abbrev stage0_0 : Fin 1 → Memref sig .tc .vmem S16x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/- The exchange of the four devices, as a schedule of semaphore rounds: which semaphore is paid by whom, and what each
   payment hands over. The four devices form a ring. Every device's scratch buffer has four slots; slot `j` is for the
   key and value block of device `j`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Pipeline.RegionTalk
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device that receives what device `c` sends, -/
def nxt (c : Dev nD) : Dev nD := ⟨(c.val + 1) % 4, Nat.mod_lt _ (by decide)⟩
/-- and the device that device `c` receives from. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
theorem nxt_inj : Function.Injective nxt := by decide
theorem prv_inj : Function.Injective prv := by decide
/-- The ring as a permutation, either way round. -/
def turn : Dev nD ≃ Dev nD := ⟨nxt, prv, prv_nxt, nxt_prv⟩
def back : Dev nD ≃ Dev nD := ⟨prv, nxt, nxt_prv, prv_nxt⟩

/-- The slot device `c` sends at hop `h`: its own block first, then the block that the hop before brought. -/
def src (c : Dev nD) (h : Fin 3) : Dev nD := ⟨(c.val + 4 - h.val) % 4, Nat.mod_lt _ (by decide)⟩
theorem src_zero (c : Dev nD) : src c 0 = c := by revert c; decide
theorem src_one (c : Dev nD) : src c 1 = src (prv c) 0 := by revert c; decide
theorem src_two (c : Dev nD) : src c 2 = src (prv c) 1 := by revert c; decide

/-- Every device once: from `c` backwards round the ring. -/
theorem back_list : ∀ c : Dev nD, (Finset.univ : Finset (Dev nD)) = [c, src (prv c) 0, src (prv c) 1, src (prv c) 2].toFinset
    ∧ [c, src (prv c) 0, src (prv c) 1, src (prv c) 2].Nodup := by decide

/-! ## The resource algebra -/

abbrev UU : Type := UR sig nD τ × URounds (GSem nD τ sig) Bool
local notation "𝕄" => MT nD τ sig Unit (Elt F) ℕ UU ℕ
abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## Semaphores -/

abbrev barS : Sem sig := sig.barrier 0 rfl
/-- The semaphore of hop `h` that the sender waits on, and the one that the receiver waits on. -/
def sS (h : Fin 3) : DmaSem sig := ⟨3 + h.val, by show 3 + h.val < 9; omega⟩
def rS (h : Fin 3) : DmaSem sig := ⟨6 + h.val, by show 6 + h.val < 9; omega⟩

abbrev bar (c : Dev nD) : GSem nD τ sig := ((c : Thread nD τ), .reg barS)
abbrev snd (c : Dev nD) (h : Fin 3) : GSem nD τ sig := ((c : Thread nD τ), .dma (sS h))
abbrev rcv (c : Dev nD) (h : Fin 3) : GSem nD τ sig := ((c : Thread nD τ), .dma (rS h))

/-! ## Slots -/

abbrev scrM : Memref sig .tc .vmem S4x32x256x64 .f32 := Memref.whole cc0_scratch0

/-- A slot as the body names it: one block of the scratch buffer, its leading unit axis dropped. -/
abbrev slotM (off : Fin 4 → ℕ) (hin : ∀ a, off a + S1x32x256x64.size a ≤ S4x32x256x64.size a) :
    Memref sig .tc .vmem S32x256x64 .f32 :=
  (scrM.slice (Rect.unit (s := S4x32x256x64) off S1x32x256x64.size hin) (fun _ => rfl)).squeeze S32x256x64 squeezes_S1x32x256x64_S32x256x64

/-- The elements of slot `j`. -/
def slotSet (j : Fin 4) : Finset S4x32x256x64.Idx := Finset.univ.filter fun i => (i 0).val = j.val

theorem mem_slotSet {j : Fin 4} {i : S4x32x256x64.Idx} : i ∈ slotSet j ↔ i 0 = j := by
  unfold slotSet; rw [Finset.mem_filter]; exact ⟨fun h => Fin.ext h.2, fun h => ⟨Finset.mem_univ _, congrArg Fin.val h⟩⟩

/-- The rectangle of one block along the leading axis holds exactly the slot's elements. -/
theorem rect_slot (j : Fin 4) (off : Fin 4 → ℕ) (hin : ∀ a, off a + S1x32x256x64.size a ≤ S4x32x256x64.size a)
    (ho : off = ![j.val, 0, 0, 0]) :
    (Rect.unit (s := S4x32x256x64) off S1x32x256x64.size hin).set = slotSet j := by
  subst ho
  ext i
  rw [Rect.mem_set_unit, mem_slotSet]
  constructor
  · intro h
    have := h 0
    refine Fin.ext ?_
    have h1 : (j.val : ℕ) ≤ (i 0).val := this.1
    have h2 : (i 0).val < j.val + 1 := this.2
    omega
  · intro h a
    fin_cases a
    · subst h; exact ⟨le_refl _, Nat.lt_succ_self _⟩
    · exact ⟨Nat.zero_le _, by show (i 1).val < 0 + 32; rw [Nat.zero_add]; exact (i 1).isLt⟩
    · exact ⟨Nat.zero_le _, by show (i 2).val < 0 + 256; rw [Nat.zero_add]; exact (i 2).isLt⟩
    · exact ⟨Nat.zero_le _, by show (i 3).val < 0 + 64; rw [Nat.zero_add]; exact (i 3).isLt⟩

theorem slot_set (j : Fin 4) (off : Fin 4 → ℕ) (hin : ∀ a, off a + S1x32x256x64.size a ≤ S4x32x256x64.size a)
    (ho : off = ![j.val, 0, 0, 0]) : (slotM off hin).view.set = slotSet j := by
  rw [← rect_slot j off hin ho]
  show (((View.whole cc0_scratch0).slice _).reshape _ _).set = _
  rw [View.set_reshape, View.set_slice_whole]

/-- The place within a block of an element of the scratch buffer. -/
def inBlock (i : S4x32x256x64.Idx) : S1x32x256x64.Idx := fun
  | 0 => (0 : Fin 1) | 1 => i 1 | 2 => i 2 | 3 => i 3 | ⟨_ + 4, h⟩ => absurd h (Nat.not_lt.2 (Nat.le_add_left _ _))

/-- The scratch buffer with every slot filled: slot `j` holds the keys and values of device `j`, as the region finds
    them there. The same contents on every device. -/
def kvAll : S4x32x256x64.Idx → Elt F .f32 := fun i => k0_pay2 (V m (i 0) main_v7) (inBlock i)

/-- Device `c`'s slot `j`, held whole at contents `f` of the buffer. -/
abbrev slotAt (c : Dev nD) (j : Fin 4) (f : Buf (Elt F) ((c : Thread nD τ).loc cc0_scratch0)) : sProp 𝕄 :=
  ((c : Thread nD τ).loc cc0_scratch0) ↦[slotSet j]{fullShare} f

/-- The same through a view of the slot. -/
theorem slotAt_view (c : Dev nD) (j : Fin 4) (off : Fin 4 → ℕ) (hin : ∀ a, off a + S1x32x256x64.size a ≤ S4x32x256x64.size a)
    (ho : off = ![j.val, 0, 0, 0]) (f : Buf (Elt F) ((c : Thread nD τ).loc cc0_scratch0)) :
    (((slotM off hin).view.loc (c : Thread nD τ)) ↦[(slotM off hin).view.set]{fullShare} f : sProp 𝕄) = slotAt c j f := by
  rw [slot_set j off hin ho]

/-- Storing device `c`'s own block into its slot leaves the slot at its final contents. -/
theorem stored (c : Dev nD) (off : Fin 4 → ℕ) (hin : ∀ a, off a + S1x32x256x64.size a ≤ S4x32x256x64.size a)
    (ho : off = ![c.val, 0, 0, 0]) (f : S4x32x256x64.Idx → Elt F .f32) (i : S4x32x256x64.Idx) (hi : i ∈ slotSet c) :
    (scrM.access (Rect.unit (s := S4x32x256x64) off S1x32x256x64.size hin)).write (Elt F) f (k0_pay2 (V m c main_v7)) Finset.univ i
      = kvAll m i := by
  subst ho
  have hi0 : i 0 = c := mem_slotSet.mp hi
  have e : (scrM.access (Rect.unit (s := S4x32x256x64) ![c.val, 0, 0, 0] S1x32x256x64.size hin)).emb (inBlock i) = i := by
    funext a
    refine Fin.ext ?_
    show (((Rect.unit (s := S4x32x256x64) ![c.val, 0, 0, 0] S1x32x256x64.size hin).emb (inBlock i)) a).val = _
    rw [Rect.emb_apply]
    fin_cases a
    · show c.val + 1 * 0 = (i 0).val; rw [hi0]; rfl
    · show 0 + 1 * (i 1).val = (i 1).val; omega
    · show 0 + 1 * (i 2).val = (i 2).val; omega
    · show 0 + 1 * (i 3).val = (i 3).val; omega
  have h := View.write_emb_of_mem (Val := Elt F) (v := scrM.access (Rect.unit (s := S4x32x256x64) ![c.val, 0, 0, 0] S1x32x256x64.size hin))
    f (k0_pay2 (V m c main_v7)) (Finset.mem_univ (inBlock i))
  rw [e] at h
  unfold kvAll
  rw [hi0]
  exact h

/-- A slot copied onto the same slot of another device: there, the slot holds what the source buffer holds in it. -/
theorem landed (j : Fin 4) (off : Fin 4 → ℕ) (hin : ∀ a, off a + S1x32x256x64.size a ≤ S4x32x256x64.size a)
    (ho : off = ![j.val, 0, 0, 0]) (f g : S4x32x256x64.Idx → Elt F .f32) (i : S4x32x256x64.Idx) (hi : i ∈ slotSet j) :
    (slotM off hin).view.write (Elt F) f ((slotM off hin).view.read (Elt F) g) Finset.univ i = g i := by
  have h := View.write_read_eq_piecewise (Val := Elt F) (v := (slotM off hin).view) f g Finset.univ
  rw [h, View.setOn_univ, slot_set j off hin ho]
  exact Finset.piecewise_eq_of_mem _ _ _ hi

theorem slots_disjoint (j j' : Fin 4) (h : j ≠ j') : Disjoint (slotSet j) (slotSet j') :=
  Finset.disjoint_left.mpr fun _ h1 h2 => h ((mem_slotSet.mp h1).symm.trans (mem_slotSet.mp h2))
theorem slots_cover : (Finset.univ : Finset (Fin 4)).biUnion slotSet = Finset.univ :=
  Finset.eq_univ_iff_forall.mpr fun i => Finset.mem_biUnion.mpr ⟨i 0, Finset.mem_univ _, mem_slotSet.mpr rfl⟩

/-- The whole scratch buffer is its four slots, listed from the slot of device `c` backwards round the ring. -/
theorem scratch_slots (c : Dev nD) (f : Buf (Elt F) ((c : Thread nD τ).loc cc0_scratch0)) :
    ((((c : Thread nD τ).loc cc0_scratch0) ↦{fullShare} f) : sProp 𝕄)
      = iprop(slotAt c c f ∗ slotAt c (src (prv c) 0) f ∗ slotAt c (src (prv c) 1) f ∗ slotAt c (src (prv c) 2) f) := by
  have h := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ slotSet (fun j _ j' _ h => slots_disjoint j j' h)
  rw [slots_cover] at h
  refine h.trans ?_
  exact bigSep_univ_eq_bigSepL [c, src (prv c) 0, src (prv c) 1, src (prv c) 2] (back_list c).1 (back_list c).2 _

/-! ## The schedule -/

/-- The units one block's arrival adds to a semaphore. -/
abbrev N : ℕ := (View.whole cc0_scratch0 : View sig .tc .vmem S4x32x256x64 .f32).ref.dmaCredit S32x256x64 .f32
theorem N_pos : 0 < N := View.dmaCredit_pos (slotM ![0, 0, 0, 0] (by decide)).view (by decide)

/-- What the next device's signal brings device `c` for hop `h`: the slot there that `c` will write, whatever it holds,
    and that the semaphore to be paid on its arrival is ready. -/
def give (c : Dev nD) (h : Fin 3) : sProp 𝕄 := iprop((∃ f, slotAt (nxt c) (src c h) f) ∗ reached ER (rcv (nxt c) h) 0)
/-- The three hops' together. -/
def barPay (c : Dev nD) : sProp 𝕄 := iprop(give c 0 ∗ give c 1 ∗ give c 2)
/-- A departed block gives its slot back to the sender, unchanged. -/
def sndPay (c : Dev nD) (h : Fin 3) : sProp 𝕄 := slotAt c (src c h) (kvAll m)
/-- An arrived block gives its slot to the receiver, filled. -/
def rcvPay (c : Dev nD) (h : Fin 3) : sProp 𝕄 := slotAt c (src (prv c) h) (kvAll m)

/-- One round at each cell: two duties at a barrier cell, one at a cell of a hop. -/
def rd : Rounds.Schedule (GSem nD τ sig) Bool 𝕄 where
  duties g r :=
    if r = 0 ∧ g.1.2 = .tc then
      match g.2 with
      | .reg _ => Finset.univ
      | .dma s => if 3 ≤ s.val then {true} else ∅
    else ∅
  unitless _ := False
  amount g _ _ := match g.2 with | .reg _ => 1 | .dma _ => N
  payload g _ d := match g.2 with
    | .reg _ => if d = true then barPay g.1.1 else iprop(emp)
    | .dma s =>
      if s = sS 0 then sndPay m g.1.1 0 else if s = sS 1 then sndPay m g.1.1 1 else if s = sS 2 then sndPay m g.1.1 2
      else if s = rS 0 then rcvPay m g.1.1 0 else if s = rS 1 then rcvPay m g.1.1 1 else if s = rS 2 then rcvPay m g.1.1 2
      else iprop(emp)
  amount_pos g _ _ _ := by rcases g with ⟨_, _ | _⟩; exacts [Nat.one_pos, N_pos]

instance rd_storable (g : GSem nD τ sig) (r : ℕ) (d : Bool) : BI.Storable (upEmb : UEmb _ 𝕄) ((rd (F := F) m).payload g r d) := by
  rcases g with ⟨t, s | s⟩
  · show BI.Storable upEmb (if d = true then barPay t.1 else iprop(emp))
    unfold barPay give
    split <;> infer_instance
  · show BI.Storable upEmb (if s = sS 0 then sndPay m t.1 0 else if s = sS 1 then sndPay m t.1 1 else if s = sS 2 then sndPay m t.1 2
      else if s = rS 0 then rcvPay m t.1 0 else if s = rS 1 then rcvPay m t.1 1 else if s = rS 2 then rcvPay m t.1 2 else iprop(emp))
    unfold sndPay rcvPay
    (repeat' split) <;> infer_instance

theorem duties_bar (c : Dev nD) : (rd (F := F) m).duties (bar c) 0 = Finset.univ := by
  dsimp only [rd]; exact if_pos ⟨rfl, rfl⟩
theorem duties_snd (c : Dev nD) (h : Fin 3) : (rd (F := F) m).duties (snd c h) 0 = {true} := by
  dsimp only [rd]; rw [if_pos ⟨rfl, rfl⟩]; exact if_pos (show 3 ≤ 3 + h.val by omega)
theorem duties_rcv (c : Dev nD) (h : Fin 3) : (rd (F := F) m).duties (rcv c h) 0 = {true} := by
  dsimp only [rd]; rw [if_pos ⟨rfl, rfl⟩]; exact if_pos (show 3 ≤ 6 + h.val by omega)
theorem duties_later (g : GSem nD τ sig) : ∀ r, 1 ≤ r → (rd (F := F) m).duties g r = ∅ :=
  fun r hr => by dsimp only [rd]; exact if_neg fun h => by omega

theorem expect_bar (c : Dev nD) : (rd (F := F) m).expect (bar c) 0 = 2 := by
  unfold Schedule.expect Schedule.amountOf; rw [duties_bar]; rfl
theorem expect_snd (c : Dev nD) (h : Fin 3) : (rd (F := F) m).expect (snd c h) 0 = N := by
  unfold Schedule.expect Schedule.amountOf; rw [duties_snd, Finset.sum_singleton]; rfl
theorem expect_rcv (c : Dev nD) (h : Fin 3) : (rd (F := F) m).expect (rcv c h) 0 = N := by
  unfold Schedule.expect Schedule.amountOf; rw [duties_rcv, Finset.sum_singleton]; rfl

theorem payload_bar (c : Dev nD) : (rd (F := F) m).payload (bar c) 0 true = barPay c := by
  dsimp only [rd]; exact if_pos rfl
theorem payload_bar' (c : Dev nD) : (rd (F := F) m).payload (bar c) 0 false = iprop(emp) := by
  dsimp only [rd]; exact if_neg (by decide)
theorem payload_snd (c : Dev nD) (h : Fin 3) (d : Bool) : (rd (F := F) m).payload (snd c h) 0 d = sndPay m c h := by
  fin_cases h <;> rfl
theorem payload_rcv (c : Dev nD) (h : Fin 3) (d : Bool) : (rd (F := F) m).payload (rcv c h) 0 d = rcvPay m c h := by
  fin_cases h <;> rfl

theorem rest_bar (c : Dev nD) :
    bigSep ((rd (F := F) m).duties (bar c) 0 \ ∅) (fun d => (rd (F := F) m).payload (bar c) 0 d) = iprop(barPay c ∗ emp) := by
  rw [Finset.sdiff_empty, duties_bar, bigSep_univ_eq_bigSepL [true, false] (by decide) (by decide)]
  show iprop((rd (F := F) m).payload (bar c) 0 true ∗ (rd (F := F) m).payload (bar c) 0 false) = _
  rw [payload_bar, payload_bar']
theorem rest_snd (c : Dev nD) (h : Fin 3) :
    bigSep ((rd (F := F) m).duties (snd c h) 0 \ ∅) (fun d => (rd (F := F) m).payload (snd c h) 0 d) = sndPay m c h := by
  rw [Finset.sdiff_empty, duties_snd, bigSep_singleton, payload_snd]
theorem rest_rcv (c : Dev nD) (h : Fin 3) :
    bigSep ((rd (F := F) m).duties (rcv c h) 0 \ ∅) (fun d => (rd (F := F) m).payload (rcv c h) 0 d) = rcvPay m c h := by
  rw [Finset.sdiff_empty, duties_rcv, bigSep_singleton, payload_rcv]

/-! ## What is owed, and the levels that keep waiting safe -/

/-- What device `c` still owes once it has sent `3`, `2`, `1`, `0` blocks: an arrival at the next device per block to send. -/
abbrev owe3 : CellTallies nD τ sig Unit := 0
def owe2 (c : Dev nD) : CellTallies nD τ sig Unit := owe3 + tallyAt (rcv (nxt c) 2) () N
def owe1 (c : Dev nD) : CellTallies nD τ sig Unit := owe2 c + tallyAt (rcv (nxt c) 1) () N
def owe0 (c : Dev nD) : CellTallies nD τ sig Unit := owe1 c + tallyAt (rcv (nxt c) 0) () N
/-- At launch also the two signals to the neighbours. -/
def oweN (c : Dev nD) : CellTallies nD τ sig Unit := owe0 c + tallyAt (bar (nxt c)) () 1
def owed₀ (c : Dev nD) : CellTallies nD τ sig Unit := oweN c + tallyAt (bar (prv c)) () 1

def L (g : GSem nD τ sig) : Finset Unit := if g.1.2 = .tc then {()} else ∅
/-- Barrier cells at level 1, the arrival cells of hop `h` at `2 + h`, all others at 0. -/
def lv (g : GSem nD τ sig) (_ : Unit) : ℕ := match g.2 with
  | .reg _ => 1
  | .dma s => if 6 ≤ s.val then s.val - 4 else 0

theorem L_of_ne (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _
theorem lv_bar (c : Dev nD) (u : Unit) : lv (bar c) u = 1 := rfl
theorem lv_snd (c : Dev nD) (h : Fin 3) (u : Unit) : lv (snd c h) u = 0 := by fin_cases h <;> rfl
theorem lv_rcv (c : Dev nD) (h : Fin 3) (u : Unit) : lv (rcv c h) u = 2 + h.val := by fin_cases h <;> rfl

/-- What a debt of one cell added to another debt is positive at. -/
theorem pos_add {O : CellTallies nD τ sig Unit} {g₀ g : GSem nD τ sig} {n : ℕ} {u : Unit}
    (h : 0 < (O + tallyAt g₀ () n) g u) : 0 < O g u ∨ g = g₀ := by
  rw [Pi.add_apply, Finsupp.add_apply] at h
  rcases Nat.add_pos_iff_pos_or_pos.mp h with h | h
  · exact .inl h
  · rw [tallyAt_apply] at h
    split at h
    · next hg => exact .inr hg.1
    · exact absurd h (Nat.lt_irrefl 0)

theorem owe3_pos {g : GSem nD τ sig} {u : Unit} (h : 0 < owe3 g u) : False := absurd h (Nat.lt_irrefl 0)
theorem owe2_pos {c : Dev nD} {g : GSem nD τ sig} {u : Unit} (h : 0 < owe2 c g u) : g = rcv (nxt c) 2 :=
  (pos_add h).resolve_left owe3_pos
theorem owe1_pos {c : Dev nD} {g : GSem nD τ sig} {u : Unit} (h : 0 < owe1 c g u) : ∃ k : Fin 3, 0 < k.val ∧ g = rcv (nxt c) k :=
  (pos_add h).elim (fun h => ⟨2, by decide, owe2_pos h⟩) fun h => ⟨1, by decide, h⟩
theorem owe0_pos {c : Dev nD} {g : GSem nD τ sig} {u : Unit} (h : 0 < owe0 c g u) : ∃ k : Fin 3, g = rcv (nxt c) k :=
  (pos_add h).elim (fun h => (owe1_pos h).imp fun _ h => h.2) fun h => ⟨0, h⟩
theorem owed₀_pos {c : Dev nD} {g : GSem nD τ sig} {u : Unit} (h : 0 < owed₀ c g u) :
    (∃ k : Fin 3, g = rcv (nxt c) k) ∨ g = bar (nxt c) ∨ g = bar (prv c) := by
  rcases pos_add h with h | h
  · rcases pos_add h with h | h
    · exact .inl (owe0_pos h)
    · exact .inr (.inl h)
  · exact .inr (.inr h)

/-- A wait is allowed below everything still owed. -/
theorem mayWait (c : Dev nD) (s : SemLoc sig) (n : ℕ) (hs : lv ((c : Thread nD τ), s) () ≤ n) (O : CellTallies nD τ sig Unit)
    (hO : ∀ g u, 0 < O g u → u ∈ L g ∧ n < lv g u) :
    (levAts L lv : sProp 𝕄) ⊢ MayWait (c : Thread nD τ) s () O :=
  MayOwe.of_cut (L := L) (lev := lv) n (fun p hp => by rw [Finset.mem_singleton.mp hp]; exact mem_L c s ()) (fun g u h => (hO g u h).1)
    (fun p hp => by rw [Finset.mem_singleton.mp hp]; exact hs) (fun g u h => (hO g u h).2)

theorem owe2_above (c : Dev nD) : ∀ g u, 0 < owe2 c g u → u ∈ L g ∧ 3 < lv g u := fun g u h => by
  rw [owe2_pos h]; exact ⟨mem_L _ _ _, by rw [lv_rcv]; decide⟩
theorem owe1_above (c : Dev nD) : ∀ g u, 0 < owe1 c g u → u ∈ L g ∧ 2 < lv g u := fun g u h => by
  obtain ⟨k, hk, rfl⟩ := owe1_pos h; exact ⟨mem_L _ _ _, by rw [lv_rcv]; omega⟩
theorem owe0_above (c : Dev nD) : ∀ g u, 0 < owe0 c g u → u ∈ L g ∧ 1 < lv g u := fun g u h => by
  obtain ⟨k, rfl⟩ := owe0_pos h; exact ⟨mem_L _ _ _, by rw [lv_rcv]; omega⟩
theorem owed₀_above (c : Dev nD) : ∀ g u, 0 < owed₀ c g u → u ∈ L g ∧ 0 < lv g u := fun g u h => by
  rcases owed₀_pos h with ⟨k, rfl⟩ | rfl | rfl
  · exact ⟨mem_L _ _ _, by rw [lv_rcv]; omega⟩
  · exact ⟨mem_L _ _ _, Nat.one_pos⟩
  · exact ⟨mem_L _ _ _, Nat.one_pos⟩

end Cert.Ring

end
-- ==== Proof.Body.lean ====
/- The kernel's body on one device, whichever it is: the signals, the three hops, the reads and the store, against the
   exchange's schedule. -/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

abbrev 𝒱₀ : Variants := Variants.none

/-! ## What a device holds of the exchange -/

/-- The cells hop `h` of device `c` pays or waits on. -/
def hopInv (K : GSem nD τ sig → ℕ) (c : Dev nD) (h : Fin 3) : sProp 𝕄 :=
  iprop(cellInv ER (rd m) (K (snd c h)) (snd c h) ∗ cellInv ER (rd m) (K (rcv c h)) (rcv c h)
    ∗ cellInv ER (rd m) (K (rcv (nxt c) h)) (rcv (nxt c) h))
/-- And the three barrier cells it signals or waits on. -/
def barInv (K : GSem nD τ sig → ℕ) (c : Dev nD) : sProp 𝕄 :=
  iprop(cellInv ER (rd m) (K (bar c)) (bar c) ∗ cellInv ER (rd m) (K (bar (nxt c))) (bar (nxt c))
    ∗ cellInv ER (rd m) (K (bar (prv c))) (bar (prv c)))
def invs (K : GSem nD τ sig → ℕ) (c : Dev nD) : sProp 𝕄 :=
  iprop(barInv m K c ∗ hopInv m K c 0 ∗ hopInv m K c 1 ∗ hopInv m K c 2)

instance hopInv_persistent (K : GSem nD τ sig → ℕ) (c : Dev nD) (h : Fin 3) : BI.Persistent (hopInv m K c h) := by
  unfold hopInv; infer_instance
instance barInv_persistent (K : GSem nD τ sig → ℕ) (c : Dev nD) : BI.Persistent (barInv m K c) := by
  unfold barInv; infer_instance
instance invs_persistent (K : GSem nD τ sig → ℕ) (c : Dev nD) : BI.Persistent (invs m K c) := by unfold invs; infer_instance

/-- The right to pay both semaphores of hop `h`. -/
def hopTok (c : Dev nD) (h : Fin 3) : sProp 𝕄 := iprop(dutyTok ER (snd c h) 0 true ∗ dutyTok ER (rcv (nxt c) h) 0 true)
/-- The right to wait for what hop `h` brings. -/
def hopCred (c : Dev nD) (h : Fin 3) : sProp 𝕄 := cred (tallyAt (rcv c h) () N)
/-- Where the device stands at the two cells of hop `h`: at the start of round `r`. -/
def hopAt (c : Dev nD) (h : Fin 3) (r : ℕ) : sProp 𝕄 := iprop(atPos ER (snd c h) r ∅ 0 ∗ atPos ER (rcv c h) r ∅ 0)
/-- Both cells of hop `h` are open. -/
def hopReady (c : Dev nD) (h : Fin 3) : sProp 𝕄 := iprop(reached ER (snd c h) 0 ∗ reached ER (rcv c h) 0)

instance hopReady_persistent (c : Dev nD) (h : Fin 3) : BI.Persistent (hopReady (F := F) c h) := by unfold hopReady; infer_instance

/-! ## One hop -/

section Hop

variable (K : GSem nD τ sig → ℕ) (c : Dev nD) (h : Fin 3)

/-- A wait for one block at one of the device's own cells, the whole round at once. -/
theorem wp_await {s : DmaSem sig} {a b : Memref sig .tc .vmem S32x256x64 .f32} {ha : a.view.WordExact} {hb : b.view.WordExact}
    (hN : b.view.dmaCredit = N) (he : (rd (F := F) m).expect ((c : Thread nD τ), .dma s) 0 = N)
    {P : sProp 𝕄} (hP : bigSep ((rd (F := F) m).duties ((c : Thread nD τ), .dma s) 0 \ ∅)
      (fun d => (rd (F := F) m).payload ((c : Thread nD τ), .dma s) 0 d) = P)
    {O : CellTallies nD τ sig Unit} {W : Waits sig Unit} (hw : (levAts L lv : sProp 𝕄) ⊢ MayWait (c : Thread nD τ) (.dma s) () O)
    {κ : ℕ} {k : PUnit → Prog (TpuEff nD τ sig (Elt F) Λ₀ .tc) PUnit} {Q : PUnit → sProp 𝕄} :
    iprop(cellInv ER (rd m) κ ((c : Thread nD τ), .dma s) ∗ cred (tallyAt ((c : Thread nD τ), .dma s) () N)
        ∗ owes (c : Thread nD τ) O W ∗ levAts L lv ∗ atPos ER ((c : Thread nD τ), .dma s) 0 ∅ 0)
      ⊢ iprop(((owes (c : Thread nD τ) O (insert (.dma s, ()) W) ∗ atPos ER ((c : Thread nD τ), .dma s) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s a b ha hb) k) Q) := by
  iintro ⟨#Hi, Hc, HO, #Hl, Hat⟩ Hk
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      ((Nat.zero_add _).trans (hN.trans he.symm))) $$ [Hc HO Hat]
  · isplitr; · iexact Hi
    isplitl [Hc]; · rw [hN]; iexact Hc
    isplitl [HO]; · iexact HO
    isplitr; · iapply hw; iexact Hl
    iexact Hat
  iintro ⟨HO, Hat, -, Hp⟩
  iapply Hk
  isplitl [HO]; · iexact HO
  isplitl [Hat]; · iexact Hat
  iapply (Entails.of_eq hP) $$ Hp

/-- HOP `h`: device `c` sends its slot `src c h` into the same slot of the next device, waits for the departure and then
    for the arrival of the block the device before sent it. -/
theorem wp_hop {n : Dev nD} (hn : n = nxt c) {off : Fin 4 → ℕ} {hin : ∀ a, off a + S1x32x256x64.size a ≤ S4x32x256x64.size a}
    (ho : off = ![(src c h).val, 0, 0, 0]) {s₁ s₂ : DmaSem sig} (h₁ : s₁ = sS h) (h₂ : s₂ = rS h)
    {hsc : (slotM off hin).view.ref.isScScratch = false} {e₁ e₂ : (slotM off hin).view.WordExact}
    {hsem : DmaTarget.Typed .vmem (.dma s₂) (.remote (n : Thread nD τ) (slotM off hin) (.dma s₁) hsc)}
    {e₃ e₄ e₅ e₆ : (slotM off hin).view.WordExact}
    {k : PUnit → Prog (TpuEff nD τ sig (Elt F) Λ₀ .tc) PUnit} {Q : PUnit → sProp 𝕄}
    {O : CellTallies nD τ sig Unit} (O' : CellTallies nD τ sig Unit) (hO : O = O' + tallyAt (rcv (nxt c) h) () N)
    (hw : ∀ g u, 0 < O' g u → u ∈ L g ∧ 2 + h.val < lv g u) :
    iprop(hopInv m K c h ∗ hopReady c h ∗ levAts L lv ∗ hopTok c h ∗ hopCred c h ∗ hopAt c h 0
        ∗ give c h ∗ slotAt c (src c h) (kvAll m) ∗ (∃ W, owes (c : Thread nD τ) O W))
      ⊢ iprop(((hopAt c h 1 ∗ slotAt c (src c h) (kvAll m) ∗ slotAt c (src (prv c) h) (kvAll m) ∗ (∃ W, owes (c : Thread nD τ) O' W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off hin) (.remote (n : Thread nD τ) (slotM off hin) (.dma s₁) hsc) (.dma s₂) e₁ e₂ hsem) fun _ =>
                .op (.waitDma2 s₁ (slotM off hin) (slotM off hin) e₃ e₄) fun _ =>
                .op (.waitDma2 s₂ (slotM off hin) (slotM off hin) e₅ e₆) k) Q) := by
  subst hn; subst h₁; subst h₂
  unfold hopInv hopReady hopTok hopCred hopAt give
  iintro ⟨⟨#His, #Hir, #Hin⟩, ⟨#Hrs, -⟩, #Hlev, ⟨Hts, Htr⟩, Hcr, ⟨Has, Har⟩, ⟨⟨%f, Hdst⟩, #Hrn⟩, Hsrc, ⟨%W, HO⟩⟩ Hk
  ihave Hsrc := (Entails.of_eq (slotAt_view c (src c h) off hin ho (kvAll m)).symm) $$ Hsrc
  ihave Hdst := (Entails.of_eq (slotAt_view (nxt c) (src c h) off hin ho f).symm) $$ Hdst
  iapply (Rounds.wp_send_pointsTo 𝒱₀ ER (rd m) (c : Thread nD τ) none (c' := (nxt c : Thread nD τ)) (src := slotM off hin) (dst := slotM off hin)
      (sS := .dma (sS h)) (sem := .dma (rS h)) (q := fullShare) (fs := kvAll m) (fd := f) (κ₁ := K (snd c h)) (κ₂ := K (rcv (nxt c) h))
      (r₁ := 0) (r₂ := 0) (d₁ := true) (d₂ := true) (W := W)
      (by rw [duties_snd]; exact Finset.mem_singleton_self _) (by rw [duties_rcv]; exact Finset.mem_singleton_self _)
      () () N rfl rfl rfl O' hO
      (by rw [payload_snd, slotAt_view c (src c h) off hin ho]; exact BI.Entails.refl _)
      (by
        rw [payload_rcv, slotAt_view (nxt c) (src c h) off hin ho]
        unfold rcvPay
        rw [prv_nxt]
        exact Entails.of_eq (pointsTo_congr fun i hi => landed (src c h) off hin ho f (kvAll m) i hi))) $$ [Hsrc Hdst HO Hts Htr]
  · isplitr; · iexact His
    isplitr; · iexact Hin
    isplitl [Hsrc]; · iexact Hsrc
    isplitl [Hdst]; · iexact Hdst
    isplitl [HO]; · iexact HO
    isplitl [Hts]; · iexact Hts
    isplitr; · iexact Hrs
    isplitl [Htr]; · iexact Htr
    iexact Hrn
  iintro ⟨Hcs, HO⟩
  iapply (wp_await m c (κ := K (snd c h)) rfl (expect_snd m c h) ((rest_snd m c h).trans (by unfold sndPay; rfl)) (P := slotAt c (src c h) (kvAll m)) (W := W)
      (mayWait c (.dma (sS h)) (2 + h.val) (by rw [lv_snd]; exact Nat.zero_le _) O' hw)) $$ [Hcs HO Has]
  · isplitr; · iexact His
    isplitl [Hcs]; · iexact Hcs
    isplitl [HO]; · iexact HO
    isplitr; · iexact Hlev
    iexact Has
  iintro ⟨HO, Has, Hsrc⟩
  iapply (wp_await m c (κ := K (rcv c h)) rfl (expect_rcv m c h) ((rest_rcv m c h).trans (by unfold rcvPay; rfl)) (P := slotAt c (src (prv c) h) (kvAll m))
      (mayWait c (.dma (rS h)) (2 + h.val) (by rw [lv_rcv]) O' hw)) $$ [Hcr HO Har]
  · isplitr; · iexact Hir
    isplitl [Hcr]; · iexact Hcr
    isplitl [HO]; · iexact HO
    isplitr; · iexact Hlev
    iexact Har
  iintro ⟨HO, Har, Hnew⟩
  iapply Hk
  isplitl [Has Har]; · isplitl [Has] <;> iassumption
  isplitl [Hsrc]; · iexact Hsrc
  isplitl [Hnew]; · iexact Hnew
  iexists _; iexact HO

end Hop

/-! ## The whole body -/

abbrev qM : Memref sig .tc .vmem S16x256x64 .f32 := Memref.whole cc0_stg0_0
abbrev kvM : Memref sig .tc .vmem S32x256x64 .f32 := Memref.whole cc0_stg1_0
abbrev outM : Memref sig .tc .vmem S16x256x64 .f32 := Memref.whole cc0_stg2_0

/-- A half slot as read from the filled scratch buffer: the keys or the values of one device. -/
def half (off : Fin 4 → ℕ) (hin : ∀ a, off a + S1x16x256x64.size a ≤ S4x32x256x64.size a) : Vec F S1x16x256x64 .f32 :=
  scrM.view.readAt (Elt F) (Rect.unit (s := S4x32x256x64) off S1x16x256x64.size hin).toLoadRect (kvAll m)

abbrev key0 : Vec F S1x16x256x64 .f32 := half m ![0, 0, 0, 0] inb_S4x32x256x64_S1x16x256x64_0_0_0_0
abbrev val0 : Vec F S1x16x256x64 .f32 := half m ![0, 16, 0, 0] inb_S4x32x256x64_S1x16x256x64_0_16_0_0
abbrev key1 : Vec F S1x16x256x64 .f32 := half m ![1, 0, 0, 0] inb_S4x32x256x64_S1x16x256x64_1_0_0_0
abbrev val1 : Vec F S1x16x256x64 .f32 := half m ![1, 16, 0, 0] inb_S4x32x256x64_S1x16x256x64_1_16_0_0
abbrev key2 : Vec F S1x16x256x64 .f32 := half m ![2, 0, 0, 0] inb_S4x32x256x64_S1x16x256x64_2_0_0_0
abbrev val2 : Vec F S1x16x256x64 .f32 := half m ![2, 16, 0, 0] inb_S4x32x256x64_S1x16x256x64_2_16_0_0
abbrev key3 : Vec F S1x16x256x64 .f32 := half m ![3, 0, 0, 0] inb_S4x32x256x64_S1x16x256x64_3_0_0_0
abbrev val3 : Vec F S1x16x256x64 .f32 := half m ![3, 16, 0, 0] inb_S4x32x256x64_S1x16x256x64_3_16_0_0

/-- What device `c` stores. -/
def outVal (c : Dev nD) : FVec F S16x256x64 .f32 :=
  let q := k0_pay3 (V m c main_v2)
  let acc := k0_pay10 q k0_pay4 (key0 m) (val0 m)
  let mx := k0_pay12 q k0_pay4 (key0 m) (key1 m)
  let al := k0_pay13 q k0_pay4 (key0 m) (key1 m)
  let p := k0_pay14 q k0_pay4 (key0 m) (key1 m)
  let l := k0_pay15 q k0_pay4 k0_pay5 (key0 m) (key1 m)
  k0_pay1 (k0_pay17 q mx (key2 m)) (k0_pay20 q mx p l (key2 m)) (k0_pay21 q acc mx al p (val1 m) (key2 m) (val2 m))
    (k0_pay22 q (key3 m)) k0_pay23 (val3 m)

theorem hz3 : (![0, 0, 0] : Fin 3 → ℕ) = fun _ => 0 := funext fun a => by fin_cases a <;> rfl

omit [FloatOps F] in
/-- Storing a whole result over the staged one leaves the result stored. -/
theorem write_out (o w : S16x256x64.Idx → Elt F .f32) :
    (outM.access (Rect.unit (s := S16x256x64) ![0, 0, 0] S16x256x64.size inb_S16x256x64_S16x256x64_0_0_0)
      : View sig .tc _ _ _).write (Elt F) o w Finset.univ = w :=
  Memref.write_access_unit_zero_univ (Elt F) cc0_stg2_0 hz3 _ o w

/-- What device `c` holds of the exchange at the region's start, every cell open. -/
def opened (K : GSem nD τ sig → ℕ) (c : Dev nD) : sProp 𝕄 :=
  iprop(invs m K c
    ∗ (hopReady c 0 ∗ hopReady c 1 ∗ hopReady c 2) ∗ (reached ER (bar (nxt c)) 0 ∗ reached ER (bar (prv c)) 0)
    ∗ (atPos ER (bar c) 0 ∅ 0 ∗ hopAt c 0 0 ∗ hopAt c 1 0 ∗ hopAt c 2 0)
    ∗ (dutyTok ER (bar (prv c)) 0 true ∗ dutyTok ER (bar (nxt c)) 0 false) ∗ (hopTok c 0 ∗ hopTok c 1 ∗ hopTok c 2))
/-- The credit it waits with. -/
def creds (c : Dev nD) : sProp 𝕄 := iprop(cred (tallyAt (bar c) () 2) ∗ hopCred c 0 ∗ hopCred c 1 ∗ hopCred c 2)
/-- The counters of its own scoped semaphores, all at zero. -/
def zeros (c : Dev nD) : sProp 𝕄 :=
  iprop((semVal (snd c 0) 0 ∗ semVal (snd c 1) 0 ∗ semVal (snd c 2) 0) ∗ (semVal (rcv c 0) 0 ∗ semVal (rcv c 1) 0 ∗ semVal (rcv c 2) 0))

/-- A buffer of device `c`, whole. -/
abbrev pt (c : Dev nD) (b : Ref sig .tc) (f : Buf (Elt F) ((c : Thread nD τ).loc b)) : sProp 𝕄 :=
  ((c : Thread nD τ).loc b) ↦{fullShare} f

theorem shut (κ : ℕ) (g : GSem nD τ sig) :
    iprop(cellInv ER (rd m) κ g ∗ atPos ER g 1 ∅ 0) ⊢ (|={Set.univ}=> semVal g 0 : sProp 𝕄) :=
  Rounds.cell_close ER (rd m) (Set.mem_univ κ) id (duties_later m g)

/-- Both cells of a hop close. -/
theorem shut_hop (K : GSem nD τ sig → ℕ) (c : Dev nD) (h : Fin 3) :
    iprop(hopInv m K c h ∗ hopAt c h 1) ⊢ (|={Set.univ}=> (semVal (snd c h) 0 ∗ semVal (rcv c h) 0) : sProp 𝕄) := by
  unfold hopInv hopAt
  iintro ⟨⟨#Hs, #Hr, -⟩, ⟨Has, Har⟩⟩
  imod (shut m (K (snd c h)) (snd c h)) $$ [Has] with H1
  · isplitr; · iexact Hs
    iexact Has
  imod (shut m (K (rcv c h)) (rcv c h)) $$ [Har] with H2
  · isplitr; · iexact Hr
    iexact Har
  imodintro
  isplitl [H1] <;> iassumption

theorem dev_nxt {n : ℕ} {hn : n < nD} (c : Dev nD) (h : n = (c.val + 1) % 4) : (⟨n, hn⟩ : Dev nD) = nxt c := Fin.ext h
theorem dev_prv {n : ℕ} {hn : n < nD} (c : Dev nD) (h : n = (c.val + 3) % 4) : (⟨n, hn⟩ : Dev nD) = prv c := Fin.ext h

/-- The slots of device `c` other than its own, with the arrival cells ready: what its signal hands the device before. -/
theorem giving (c : Dev nD) (f : Buf (Elt F) ((c : Thread nD τ).loc cc0_scratch0)) :
    iprop((slotAt c (src (prv c) 0) f ∗ slotAt c (src (prv c) 1) f ∗ slotAt c (src (prv c) 2) f)
        ∗ (hopReady c 0 ∗ hopReady c 1 ∗ hopReady c 2)) ⊢ (barPay (prv c) : sProp 𝕄) := by
  unfold barPay give hopReady
  rw [nxt_prv]
  iintro ⟨⟨H0, H1, H2⟩, ⟨-, R0⟩, ⟨-, R1⟩, ⟨-, R2⟩⟩
  isplitl [H0 R0]; · isplitl [H0]; · iexists f; iexact H0
                     iexact R0
  isplitl [H1 R1]; · isplitl [H1]; · iexists f; iexact H1
                     iexact R1
  isplitl [H2]; · iexists f; iexact H2
  iexact R2

set_option maxHeartbeats 4000000 in
/-- THE BODY of device `c`: from its share of the exchange, the two staged inputs and the scratch buffer, it runs to the
    stored result, the scratch buffer filled, all counters of its own back at zero, nothing owed. -/
theorem run (K : GSem nD τ sig → ℕ) (c : Dev nD) (o : S16x256x64.Idx → Elt F .f32) (W : Waits sig Unit) (Kt : PUnit → sProp 𝕄) :
    iprop((opened m K c ∗ creds c ∗ levAts L lv ∗ (∃ f, pt c cc0_scratch0 f)
          ∗ pt c cc0_stg0_0 (V m c main_v2) ∗ pt c cc0_stg1_0 (V m c main_v7) ∗ pt c cc0_stg2_0 o ∗ owes (c : Thread nD τ) (owed₀ c) W)
        ∗ ((semVal (bar c) 0 ∗ zeros c ∗ pt c cc0_scratch0 (kvAll m)
          ∗ pt c cc0_stg0_0 (V m c main_v2) ∗ pt c cc0_stg1_0 (V m c main_v7) ∗ pt c cc0_stg2_0 (outVal m c)
          ∗ (∃ W, owes (c : Thread nD τ) 0 W)) -∗ Kt ⟨⟩))
      ⊢ wp frame (wpE (defs₀ (F := F)) 𝒱₀ c none) Set.univ
          (cc0_body qM (Memref.isWhole_whole _) kvM (Memref.isWhole_whole _) outM (Memref.isWhole_whole _) scrM (Memref.isWhole_whole _)
            cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold opened creds invs
  iintro ⟨⟨⟨⟨#HIb, #HI0, #HI1, #HI2⟩, ⟨#HR0, #HR1, #HR2⟩, ⟨#Hrn, #Hrp⟩, ⟨Hab, Ha0, Ha1, Ha2⟩, ⟨Htp, Htn⟩, ⟨Ht0, Ht1, Ht2⟩⟩,
    ⟨Hcb, Hc0, Hc1, Hc2⟩, #Hlev, ⟨%f, Hs⟩, Hq, Hkv, Ho, HO⟩, Hk⟩
  unfold barInv
  icases HIb with ⟨#HIb, #HIbn, #HIbp⟩
  simp only [dev_prv c (k0_dev1_eq c), dev_nxt c (k0_dev2_eq c)]
  ihave Hs := (Entails.of_eq (scratch_slots c f)) $$ Hs
  icases Hs with ⟨Hs, Hg0, Hg1, Hg2⟩
  -- the signal to the device before: the three slots it will fill
  iapply (Rounds.wp_signal 𝒱₀ ER (rd m) (c : Thread nD τ) none (dst := (prv c : Thread nD τ)) (sem := barS) (r := 0) (κ := K (bar (prv c)))
      (d := true) (by rw [duties_bar]; exact Finset.mem_univ _) rfl () (oweN c) rfl) $$ [HO Htp Hg0 Hg1 Hg2]
  · isplitr; · iexact HIbp
    isplitl [HO]; · iexact HO
    isplitl [Htp]; · iexact Htp
    isplitl [Hg0 Hg1 Hg2]
    · rw [payload_bar]
      iapply (giving c f)
      isplitl [Hg0 Hg1 Hg2]
      · isplitl [Hg0]; · iexact Hg0
        isplitl [Hg1] <;> iassumption
      isplitr; · iexact HR0
      isplitr; · iexact HR1
      iexact HR2
    · iexact Hrp
  iintro HO
  -- the signal to the next device: it hands over nothing
  unfold oweN
  iapply (Rounds.wp_signal 𝒱₀ ER (rd m) (c : Thread nD τ) none (dst := (nxt c : Thread nD τ)) (sem := barS) (r := 0) (κ := K (bar (nxt c)))
      (d := false) (by rw [duties_bar]; exact Finset.mem_univ _) rfl () (owe0 c) rfl) $$ [HO Htn]
  · isplitr; · iexact HIbn
    isplitl [HO]; · iexact HO
    isplitl [Htn]; · iexact Htn
    isplitl []
    · rw [payload_bar']; iempintro
    · iexact Hrn
  iintro HO
  -- the wait for both neighbours
  iapply (Rounds.wp_wait_rest_token 𝒱₀ ER (rd m) (c : Thread nD τ) none (sm := .reg barS) (k' := 2) (κ := K (bar c))
      (wpE_semWait_eq (sem := barS) (k := 2) 𝒱₀ (c : Thread nD τ) none Set.univ) (Set.mem_univ _) () (O := owe0 c) (W := W) (R := 0) (m := 0) (T := ∅)
      ((Nat.zero_add 2).trans (expect_bar m c).symm)) $$ [Hcb HO Hab]
  · isplitr; · iexact HIb
    isplitl [Hcb]; · iexact Hcb
    isplitl [HO]; · iexact HO
    isplitr; · iapply (mayWait c (.reg barS) 1 (le_refl _) (owe0 c) (owe0_above c)); iexact Hlev
    iexact Hab
  iintro ⟨HO, Hab, -, Hp⟩
  ihave Hp := (Entails.of_eq (rest_bar m c)) $$ Hp
  unfold barPay
  icases Hp with ⟨⟨Hg0, Hg1, Hg2⟩, -⟩
  -- the device's own block into its own slot
  iapply (wp_load 𝒱₀ (c : Thread nD τ) none Set.univ (m := kvM) (Finset.subset_univ _)) $$ Hkv; iintro Hkv
  rw [show (kvM : Memref sig .tc .vmem S32x256x64 .f32).view.readAt (Elt F) _ (V m c main_v7) = V m c main_v7
    from Memref.readAt_unit_zero (Elt F) cc0_stg1_0 hz3 _ _]
  have hset : (scrM.access (Rect.unit (s := S4x32x256x64) (k0_off1 c) S1x32x256x64.size (k0_off1_inb c))).set = slotSet c := by
    rw [← rect_slot c (k0_off1 c) (k0_off1_inb c) (k0_off1_eq c)]
    exact View.set_slice_whole _ _
  iapply (wp_load_rect 𝒱₀ (c : Thread nD τ) none Set.univ (m := scrM) (subset_of_eq hset)) $$ Hs; iintro Hs
  iapply (wp_store 𝒱₀ (c : Thread nD τ) none Set.univ (m := scrM) (Mk := Finset.univ)
    (subset_of_eq ((View.setOn_univ _).trans hset))) $$ Hs; iintro Hs
  ihave Hs := (Entails.of_eq (pointsTo_congr (stored m c (k0_off1 c) (k0_off1_inb c) (k0_off1_eq c) f))) $$ Hs
  -- the three hops
  iapply (wp_hop m K c 0 (dev_nxt c (k0_dev3_eq c)) (k0_off2_eq c 0) rfl rfl (owe1 c) rfl (owe1_above c))
    $$ [Ht0 Hc0 Ha0 Hg0 Hs HO]
  · isplitr; · iexact HI0
    isplitr; · iexact HR0
    isplitr; · iexact Hlev
    isplitl [Ht0]; · iexact Ht0
    isplitl [Hc0]; · iexact Hc0
    isplitl [Ha0]; · iexact Ha0
    isplitl [Hg0]; · iexact Hg0
    isplitl [Hs]; · rw [src_zero]; iexact Hs
    iexists _; iexact HO
  iintro ⟨Ha0, Hs0, Hs1, HO⟩
  iapply (wp_hop m K c 1 (dev_nxt c (k0_dev4_eq c)) (k0_off2_eq c 1) rfl rfl (owe2 c) rfl (owe2_above c))
    $$ [Ht1 Hc1 Ha1 Hg1 Hs1 HO]
  · isplitr; · iexact HI1
    isplitr; · iexact HR1
    isplitr; · iexact Hlev
    isplitl [Ht1]; · iexact Ht1
    isplitl [Hc1]; · iexact Hc1
    isplitl [Ha1]; · iexact Ha1
    isplitl [Hg1]; · iexact Hg1
    isplitl [Hs1]; · rw [src_one]; iexact Hs1
    iexact HO
  iintro ⟨Ha1, Hs1, Hs2, HO⟩
  iapply (wp_hop m K c 2 (dev_nxt c (k0_dev5_eq c)) (k0_off2_eq c 2) rfl rfl owe3 rfl (fun _ _ h => (owe3_pos h).elim))
    $$ [Ht2 Hc2 Ha2 Hg2 Hs2 HO]
  · isplitr; · iexact HI2
    isplitr; · iexact HR2
    isplitr; · iexact Hlev
    isplitl [Ht2]; · iexact Ht2
    isplitl [Hc2]; · iexact Hc2
    isplitl [Ha2]; · iexact Ha2
    isplitl [Hg2]; · iexact Hg2
    isplitl [Hs2]; · rw [src_two]; iexact Hs2
    iexact HO
  iintro ⟨Ha2, Hs2, Hs3, HO⟩
  ihave Hs := (Entails.of_eq (scratch_slots c (kvAll m)).symm) $$ [Hs0 Hs1 Hs2 Hs3]
  · isplitl [Hs0]; · rw [src_zero]; iexact Hs0
    isplitl [Hs1]; · rw [src_one]; iexact Hs1
    isplitl [Hs2]; · rw [src_two]; iexact Hs2
    iexact Hs3
  -- the reads and the store
  iapply (wp_load 𝒱₀ (c : Thread nD τ) none Set.univ (m := qM) (Finset.subset_univ _)) $$ Hq; iintro Hq
  rw [show (qM : Memref sig .tc .vmem S16x256x64 .f32).view.readAt (Elt F) _ (V m c main_v2) = V m c main_v2
    from Memref.readAt_unit_zero (Elt F) cc0_stg0_0 hz3 _ _]
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := scrM) (Finset.subset_univ _)) $$ Hs; iintro Hs
  iapply (wp_load 𝒱₀ (c : Thread nD τ) none Set.univ (m := outM) (Finset.subset_univ _)) $$ Ho; iintro Ho
  iapply (wp_store 𝒱₀ (c : Thread nD τ) none Set.univ (m := outM)
    (r := Rect.unit (s := S16x256x64) ![0, 0, 0] S16x256x64.size inb_S16x256x64_S16x256x64_0_0_0) (Mk := Finset.univ) (Finset.subset_univ _)) $$ Ho; iintro Ho
  rw [write_out, wp_ret]
  -- the cells close
  imod (shut m (K (bar c)) (bar c)) $$ [Hab] with Hzb
  · isplitr; · iexact HIb
    iexact Hab
  imod (shut_hop m K c 0) $$ [Ha0] with ⟨Hz0, Hy0⟩
  · isplitr; · iexact HI0
    iexact Ha0
  imod (shut_hop m K c 1) $$ [Ha1] with ⟨Hz1, Hy1⟩
  · isplitr; · iexact HI1
    iexact Ha1
  imod (shut_hop m K c 2) $$ [Ha2] with ⟨Hz2, Hy2⟩
  · isplitr; · iexact HI2
    iexact Ha2
  imodintro
  iapply Hk
  isplitl [Hzb]; · iexact Hzb
  isplitl [Hz0 Hz1 Hz2 Hy0 Hy1 Hy2]
  · unfold zeros
    isplitl [Hz0 Hz1 Hz2]
    · isplitl [Hz0]; · iexact Hz0
      isplitl [Hz1] <;> iassumption
    isplitl [Hy0]; · iexact Hy0
    isplitl [Hy1] <;> iassumption
  isplitl [Hs]; · iexact Hs
  isplitl [Hq]; · iexact Hq
  isplitl [Hkv]; · iexact Hkv
  isplitl [Ho]; · iexact Ho
  iexact HO

end Cert.Ring

end
-- ==== Proof.Region.lean ====
/- The one kernel region of @main: what its windows hold, its body at its single grid point, and the region as a segment of
   @main, from the operands the host lines before it leave to the result the kernel writes. -/
module

public import proofs.«01_k».proof.Proof.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ)

/-! ## The region's data -/

/-- The scratch buffer, at contents not chosen. -/
def scrAny (c : Dev nD) : sProp 𝕄 := iprop(∃ f, pt c cc0_scratch0 f)
/-- What the body starts from besides its windows and its scratch. -/
def Xk (c : Dev nD) : sProp 𝕄 := iprop((∃ K, opened m K c) ∗ creds c ∗ levAts L lv)
/-- What the exchange leaves outside the region: the barrier's counter, back at zero. -/
def Yk (c : Dev nD) : sProp 𝕄 := semVal (bar c) 0

def phi (c : Dev nD) (n : ℕ) : sProp 𝕄 :=
  if n = 0 then iprop(Xk m c ∗ scrAny c ∗ ∃ r, prngReg c r)
  else iprop(Yk c ∗ zeros c ∗ scrAny c ∗ ∃ r, prngReg c r)

theorem phi_zero (c : Dev nD) : phi m c 0 = iprop(Xk m c ∗ scrAny c ∗ ∃ r, prngReg c r) := by
  unfold phi; exact if_pos rfl
theorem phi_one (c : Dev nD) : phi m c 1 = iprop(Yk c ∗ zeros c ∗ scrAny c ∗ ∃ r, prngReg c r) := by
  unfold phi; exact if_neg Nat.one_ne_zero

/-- What the device owes the others before and after the body. -/
def oweAt (c : Dev nD) (n : ℕ) : CellTallies nD τ sig Unit := if n = 0 then owed₀ c else 0
theorem oweAt_zero (c : Dev nD) : oweAt c 0 = owed₀ c := by unfold oweAt; exact if_pos rfl
theorem oweAt_one (c : Dev nD) : oweAt c 1 = 0 := by unfold oweAt; exact if_neg Nat.one_ne_zero

/-- The whole contents window `w` has once the body has run. -/
def dat (c : Dev nD) : Dat τ (Elt F) Unit ℕ UU ℕ cfg0 c where
  A w := V m c (Pipeline.arrRef spec0 w)
  after w _ := match w with
    | ⟨0, _⟩ => V m c main_v2
    | ⟨1, _⟩ => V m c main_v7
    | ⟨2, _⟩ => outVal m c
  Φ t := phi m c t.val
  q _ := fullShare
  owed t := oweAt c t.val

abbrev adm : (p : Fin 1) → (pcfgs (F := F) p).Adm := fun p => (cfgs p).toPCfg_adm
abbrev pdats (p : Fin 1) (c : Dev nD) : Dat τ (Elt F) Unit ℕ UU ℕ (Pipeline.pin (pcfgs (F := F)) adm p) c := dat m c

theorem owed_first (c : Dev nD) : (dat m c).owed 0 = owed₀ c := oweAt_zero c
theorem owed_start (c : Dev nD) : (dat m c).owed t0_0.castSucc = owed₀ c := oweAt_zero c
theorem owed_end (c : Dev nD) : (dat m c).owed t0_0.succ = 0 := oweAt_one c
theorem owed_last (c : Dev nD) : (dat m c).owed (Fin.last _) = 0 := oweAt_one c
theorem phi_first (c : Dev nD) : (dat m c).Φ 0 = iprop(Xk m c ∗ scrAny c ∗ ∃ r, prngReg c r) := phi_zero m c
theorem phi_start (c : Dev nD) : (dat m c).Φ t0_0.castSucc = iprop(Xk m c ∗ scrAny c ∗ ∃ r, prngReg c r) := phi_zero m c
theorem phi_end (c : Dev nD) : (dat m c).Φ t0_0.succ = iprop(Yk c ∗ zeros c ∗ scrAny c ∗ ∃ r, prngReg c r) := phi_one m c
theorem phi_last (c : Dev nD) : (dat m c).Φ (Fin.last _) = iprop(Yk c ∗ zeros c ∗ scrAny c ∗ ∃ r, prngReg c r) := phi_one m c

/-- A window on a whole buffer owns that buffer. -/
theorem owns_whole (c : Dev nD) (b : Ref sig .tc) (X : b.ty.Contents (Elt F)) :
    (owns (c : Thread nD τ) (Memref.whole b) fullShare X : sProp 𝕄) = iprop(∃ f, ⌜f = X⌝ ∗ pt c b f) := by
  unfold owns; simp only [Memref.view_whole, View.read_whole, View.set_whole]

theorem owes_of (c : Dev nD) (t : Fin (cfg0.N + 1)) :
    ((dat m c).owesAt () t : sProp 𝕄) ⊢ iprop(∃ W, owes (c : Thread nD τ) ((dat m c).owed t) W) := by
  unfold Dat.owesAt Pipeline.owesWithin
  iintro ⟨%W, -, H⟩
  iexists W; iexact H
theorem owes_to (c : Dev nD) (t : Fin (cfg0.N + 1)) (W : Waits sig Unit) :
    (owes (c : Thread nD τ) ((dat m c).owed t) W : sProp 𝕄) ⊢ (dat m c).owesAt () t := by
  unfold Dat.owesAt Pipeline.owesWithin Dat.bound
  iintro H
  iexists W; isplitr
  · ipureintro; exact fun _ _ => Or.inl trivial
  iexact H

/-- A window's block is the whole array: its offset is zero on every axis. -/
theorem zero_offset {s : Shape} : (fun a : Fin s.rank => 0 * s.size a) = fun _ => 0 := funext fun _ => Nat.zero_mul _
theorem zero_inside {s : Shape} (a : Fin s.rank) : 0 * s.size a + s.size a ≤ s.size a := by rw [Nat.zero_mul, Nat.zero_add]

theorem read_q (X : main_v2.ty.Contents (Elt F)) : ((cfg0.win 0).blk t0_0).view.read (Elt F) X = X :=
  Memref.read_access_unit_zero (Elt F) main_v2 zero_offset zero_inside X
theorem read_kv (X : main_v7.ty.Contents (Elt F)) : ((cfg0.win 1).blk t0_0).view.read (Elt F) X = X :=
  Memref.read_access_unit_zero (Elt F) main_v7 zero_offset zero_inside X
theorem write_result (X Y : main_v8.ty.Contents (Elt F)) : ((cfg0.win 2).blk t0_0).view.write (Elt F) X Y Finset.univ = Y :=
  Memref.write_access_unit_zero_univ (Elt F) main_v8 zero_offset zero_inside X Y

theorem before_q (c : Dev nD) (d) : (dat m c).before 0 t0_0 d = V m c main_v2 := by
  unfold Dat.before; rw [if_pos (fetch0_0 t0_0)]
  exact read_q (V m c main_v2)
theorem before_kv (c : Dev nD) (d) : (dat m c).before 1 t0_0 d = V m c main_v7 := by
  unfold Dat.before; rw [if_pos (fetch0_1 t0_0)]
  exact read_kv (V m c main_v7)

set_option maxRecDepth 4000 in
theorem body (c : Dev nD) : BodyObligation (dat m c) defs₀ 𝒱₀ () Set.univ := fun t => by
  obtain rfl := fin_N0 t
  rw [bigSep_W0, bigSep_W0, phi_start, phi_end]
  show iprop((Xk m c ∗ scrAny c ∗ ∃ r, prngReg c r) ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d)))
    ⊢ wp frame (wpE (defs₀ (F := F)) 𝒱₀ c none) Set.univ
        (cc0_body qM (Memref.isWhole_whole _) kvM (Memref.isWhole_whole _) outM (Memref.isWhole_whole _) scrM (Memref.isWhole_whole _)
          cc0_scratch1 cc0_scratch2)
        (fun _ => iprop((Yk c ∗ zeros c ∗ scrAny c ∗ ∃ r, prngReg c r) ∗ (dat m c).owesAt () t0_0.succ
          ∗ owns (c : Thread nD τ) (Memref.whole cc0_stg0_0) fullShare (V m c main_v2)
          ∗ owns (c : Thread nD τ) (Memref.whole cc0_stg1_0) fullShare (V m c main_v7)
          ∗ owns (c : Thread nD τ) (Memref.whole cc0_stg2_0) fullShare (outVal m c)))
  simp only [owns_whole, before_q, before_kv]
  unfold Xk scrAny
  iintro ⟨⟨⟨⟨%K, Hg⟩, Hc, Hl⟩, Hs, Hp⟩, HO, ⟨%d0, %f0, %e0, H0⟩, ⟨%d1, %f1, %e1, H1⟩, ⟨%d2, %f2, -, H2⟩⟩
  subst e0 e1
  ihave HO' := (owes_of m c t0_0.castSucc) $$ HO
  rw [owed_start]
  icases HO' with ⟨%W, HO⟩
  iapply (run m K c f2 W _)
  isplitl [Hg Hc Hl Hs H0 H1 H2 HO]
  · isplitl [Hg]; · iexact Hg
    isplitl [Hc]; · iexact Hc
    isplitl [Hl]; · iexact Hl
    isplitl [Hs]; · iexact Hs
    isplitl [H0]; · iexact H0
    isplitl [H1]; · iexact H1
    isplitl [H2]; · iexact H2
    iexact HO
  iintro ⟨Hb, Hz, Hs, H0, H1, H2, ⟨%W', HO⟩⟩
  isplitr [HO H0 H1 H2]
  · isplitl [Hb]; · unfold Yk; iexact Hb
    isplitl [Hz]; · iexact Hz
    isplitl [Hs]; · iexists _; iexact Hs
    iexact Hp
  isplitl [HO]; · iapply (owes_to m c t0_0.succ W'); rw [owed_end]; iexact HO
  isplitl [H0]
  · iexists _; isplitr
    · ipureintro; rfl
    iexact H0
  isplitl [H1]
  · iexists _; isplitr
    · ipureintro; rfl
    iexact H1
  iexists _; isplitr
  · ipureintro; rfl
  iexact H2

/-! ## The region as a segment -/

/-- The semaphores the region's scope allocates: the three send and the three receive semaphores. -/
abbrev osem : Fin 6 → SemLoc sig := fun
  | 0 => .dma (sS 0) | 1 => .dma (sS 1) | 2 => .dma (sS 2) | 3 => .dma (rS 0) | 4 => .dma (rS 1) | 5 => .dma (rS 2)

theorem osem_eq (Φ : SemLoc sig → sProp 𝕄) : (bigSep Finset.univ fun k => Φ (osem k))
    = iprop(Φ (osem 0) ∗ Φ (osem 1) ∗ Φ (osem 2) ∗ Φ (osem 3) ∗ Φ (osem 4) ∗ Φ (osem 5)) :=
  bigSep_univ_eq_bigSepL [(0 : Fin 6), 1, 2, 3, 4, 5] (by decide) (by decide) fun k => Φ (osem k)

theorem own_sems (c : Dev nD) : (Pipeline.ownSems0 osem c : sProp 𝕄) = iprop(semVal (snd c 0) 0 ∗ semVal (snd c 1) 0 ∗ semVal (snd c 2) 0
    ∗ semVal (rcv c 0) 0 ∗ semVal (rcv c 1) 0 ∗ semVal (rcv c 2) 0) := by
  unfold Pipeline.ownSems0
  exact osem_eq fun s => semVal ((c : Thread nD τ), s) 0

/-- What device `c` holds of the exchange from the launch, its six cells not yet open. -/
def ghost (K : GSem nD τ sig → ℕ) (c : Dev nD) : sProp 𝕄 := iprop(invs m K c
    ∗ (reached ER (bar (nxt c)) 0 ∗ reached ER (bar (prv c)) 0) ∗ atPos ER (bar c) 0 ∅ 0
    ∗ ((openTok ER (snd c 0) ∗ openTok ER (snd c 1) ∗ openTok ER (snd c 2))
      ∗ (openTok ER (rcv c 0) ∗ openTok ER (rcv c 1) ∗ openTok ER (rcv c 2)))
    ∗ (dutyTok ER (bar (prv c)) 0 true ∗ dutyTok ER (bar (nxt c)) 0 false) ∗ (hopTok c 0 ∗ hopTok c 1 ∗ hopTok c 2))

def Tk (c : Dev nD) : sProp 𝕄 := iprop((∃ K, ghost m K c) ∗ creds c)

/-- Opening the two cells of a hop with their counters at zero. -/
theorem open_hop (K : GSem nD τ sig → ℕ) (c : Dev nD) (h : Fin 3) :
    iprop(hopInv m K c h ∗ (openTok ER (snd c h) ∗ semVal (snd c h) 0) ∗ (openTok ER (rcv c h) ∗ semVal (rcv c h) 0))
      ⊢ (|={Set.univ}=> iprop(hopReady c h ∗ hopAt c h 0) : sProp 𝕄) := by
  unfold hopInv hopReady hopAt
  iintro ⟨⟨#Is, #Ir, -⟩, ⟨Hos, Hs⟩, ⟨Hor, Hr⟩⟩
  imod (Rounds.cell_open ER (rd m) (g := snd c h) (Set.mem_univ (K (snd c h)))) $$ [Hos Hs] with ⟨Has, #Rs⟩
  · isplitr; · iexact Is
    isplitl [Hos] <;> iassumption
  imod (Rounds.cell_open ER (rd m) (g := rcv c h) (Set.mem_univ (K (rcv c h)))) $$ [Hor Hr] with ⟨Har, #Rr⟩
  · isplitr; · iexact Ir
    isplitl [Hor] <;> iassumption
  imodintro
  isplitr
  · isplitr; · iexact Rs
    iexact Rr
  isplitl [Has] <;> iassumption

theorem opening (c : Dev nD) : iprop(Tk m c ∗ Pipeline.ownSems0 osem c ∗ levAts L lv) ⊢ (|={Set.univ}=> Xk m c : sProp 𝕄) := by
  rw [own_sems]
  unfold Tk Xk ghost
  iintro ⟨⟨⟨%K, #HI, Hrb, Hab, ⟨⟨Os0, Os1, Os2⟩, Or0, Or1, Or2⟩, Htb, Hth⟩, Hc⟩, ⟨S0, S1, S2, R0, R1, R2⟩, Hl⟩
  ihave HI' := (show invs m K c ⊢ iprop(barInv m K c ∗ hopInv m K c 0 ∗ hopInv m K c 1 ∗ hopInv m K c 2) from .rfl) $$ HI
  icases HI' with ⟨-, #I0, #I1, #I2⟩
  imod (open_hop m K c 0) $$ [Os0 S0 Or0 R0] with ⟨Y0, A0⟩
  · isplitr; · iexact I0
    isplitl [Os0 S0]
    · isplitl [Os0] <;> iassumption
    isplitl [Or0] <;> iassumption
  imod (open_hop m K c 1) $$ [Os1 S1 Or1 R1] with ⟨Y1, A1⟩
  · isplitr; · iexact I1
    isplitl [Os1 S1]
    · isplitl [Os1] <;> iassumption
    isplitl [Or1] <;> iassumption
  imod (open_hop m K c 2) $$ [Os2 S2 Or2 R2] with ⟨Y2, A2⟩
  · isplitr; · iexact I2
    isplitl [Os2 S2]
    · isplitl [Os2] <;> iassumption
    isplitl [Or2] <;> iassumption
  imodintro
  isplitl [Hrb Hab Htb Hth Y0 A0 Y1 A1 Y2 A2]
  · iexists K; unfold opened
    isplitr; · iexact HI
    isplitl [Y0 Y1 Y2]
    · isplitl [Y0]; · iexact Y0
      isplitl [Y1] <;> iassumption
    isplitl [Hrb]; · iexact Hrb
    isplitl [Hab A0 A1 A2]
    · isplitl [Hab]; · iexact Hab
      isplitl [A0]; · iexact A0
      isplitl [A1] <;> iassumption
    isplitl [Htb]; · iexact Htb
    iexact Hth
  isplitl [Hc]; · iexact Hc
  iexact Hl

theorem rest_scr (c : Dev nD) : (Pipeline.scopedRest (Ix := Unit) (Name := ℕ) (U := UU) (Lvl := ℕ) (Val := Elt F)
    (Pipeline.pin (pcfgs (F := F)) adm 0).spec c : sProp 𝕄) = scrAny c := scopedRest0_eq c

theorem entering (c : Dev nD) (W : Valuation τ sig (Elt F)) :
    iprop(Pipeline.scopedRest (Pipeline.pin (pcfgs (F := F)) adm 0).spec c ∗ (∃ r, prngReg c r)
      ∗ StableHlo.held (c.tc : Thread nD τ) ∅ W ∗ Xk m c) ⊢ (pdats m 0 c).Φ 0 := by
  rw [show (pdats m 0 c).Φ 0 = iprop(Xk m c ∗ scrAny c ∗ ∃ r, prngReg c r) from phi_first m c, rest_scr]
  iintro ⟨Hs, Hp, -, HX⟩
  isplitl [HX]; · iexact HX
  isplitl [Hs] <;> iassumption

theorem leaving (c : Dev nD) (W : Valuation τ sig (Elt F)) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ W ∗ Pipeline.ownSems0 osem c ∗ Yk c) := by
  rw [show (pdats m 0 c).Φ (Fin.last _) = iprop(Yk c ∗ zeros c ∗ scrAny c ∗ ∃ r, prngReg c r) from phi_last m c, rest_scr, own_sems,
    show StableHlo.held (c.tc : Thread nD τ) ∅ W = (BI.emp : sProp 𝕄) from BI.bigSep_empty]
  unfold zeros
  iintro ⟨HY, ⟨⟨S0, S1, S2⟩, R0, R1, R2⟩, Hs, Hp⟩
  isplitl [Hs]; · iexact Hs
  isplitl [Hp]; · iexact Hp
  isplitr; · iempintro
  isplitr [HY]
  · isplitl [S0]; · iexact S0
    isplitl [S1]; · iexact S1
    isplitl [S2]; · iexact S2
    isplitl [R0]; · iexact R0
    isplitl [R1] <;> iassumption
  iexact HY

/-- The host buffers after the region: the kernel's result written, the others as they were. -/
def Wn (c : Dev nD) : Valuation τ sig (Elt F) := Function.update (V0 m c) (Proc.devRef .tc main_v8) (outVal m c)

theorem Wn_out (c : Dev nD) : Wn m c (Proc.devRef .tc main_v8) = outVal m c := by unfold Wn; exact Function.update_self ..
theorem Wn_of_ne (c : Dev nD) {b : DevRef τ sig} (h : b ≠ Proc.devRef .tc main_v8) : Wn m c b = V0 m c b := by
  unfold Wn; exact Function.update_of_ne h ..

abbrev arrs : Finset (DevRef τ sig) := Pipeline.arrRefs (τ := τ) spec0
theorem out_mem : Proc.devRef .tc main_v8 ∈ arrs :=
  Finset.mem_map_of_mem _ (Finset.mem_image.mpr ⟨2, Finset.mem_univ _, rfl⟩)
theorem arrs_sub : arrs ⊆ Pipeline.ucRefs τ sig := Pipeline.arrRefs_sub_ucRefs spec0 (by decide)
/-- The unscoped buffers that are no window's. -/
abbrev others : Finset (DevRef τ sig) := Pipeline.ucRefs τ sig \ arrs

theorem Wn_others (c : Dev nD) : ∀ b ∈ others \ ∅, Wn m c b = V0 m c b := fun b hb =>
  Wn_of_ne m c fun h => (Finset.mem_sdiff.mp (Finset.mem_sdiff.mp hb).1).2 (h ▸ out_mem)

theorem arr_start (c : Dev nD) (w : Fin 3) :
    (dat m c).arrAt w 0 = V0 m c (Proc.devRef .tc (Pipeline.arrRef spec0 w)) := rfl
theorem arr_end (c : Dev nD) (w : Fin 3) :
    (dat m c).arrAt w cfg0.N = Wn m c (Proc.devRef .tc (Pipeline.arrRef spec0 w)) := by
  fin_cases w
  · exact ((dat m c).arrAt_in 0 rfl _).trans (Wn_of_ne m c (b := Proc.devRef .tc main_v2) (StableHlo.devRef_ne_of_ne (by decide))).symm
  · exact ((dat m c).arrAt_in 1 rfl _).trans (Wn_of_ne m c (b := Proc.devRef .tc main_v7) (StableHlo.devRef_ne_of_ne (by decide))).symm
  · refine Eq.trans ?_ (Wn_out m c).symm
    show (dat m c).arrAt 2 cfg0.N = outVal m c
    rw [show cfg0.N = t0_0.val + 1 from rfl, (dat m c).arrAt_succ (2 : Fin 3) t0_0, flush0_2, if_pos rfl]
    exact write_result _ _

theorem level_cut (c : Dev nD) (t : Fin (cfg0.N + 1)) (g : GSem nD τ sig) (i : Unit) (h : 0 < (dat m c).owed t g i) :
    i ∈ L g ∧ (0 : ℕ) < lv g i := by
  have e : (dat m c).owed t = oweAt c t.val := rfl
  rw [e] at h; unfold oweAt at h
  split at h
  · exact owed₀_above c g i h
  · exact absurd h (Nat.lt_irrefl 0)

theorem stage_level (c : Dev nD) (w : Fin 3) (s : Fin ((cfg0.win w).nbuf)) : lv ((c : Thread nD τ), .dma ((cfg0.win w).sem s)) () ≤ 0 := by
  fin_cases w <;> exact Nat.le_refl 0

set_option backward.isDefEq.respectTransparency.types false in
/-- The region: from the host buffers as the operations before it leave them to the same with the kernel's result written. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) (launch0.toP (Val := Elt F)) rfl (fun c => (body m c).loose)
    (fun _ => 0) owed₀ (fun c => (owed_first m c).trans (zero_add _).symm) (owed_last m) (fun _ => rfl)
    (fun c w => by unfold Dat.share; split <;> rfl)
    (V0 m) (Wn m) (Wn_others m) (Tk m) Yk (Xk m) Yk (opening m) (fun c => entering m c _) (fun c => leaving m c _)
    (fun c => by iintro H; imodintro; iexact H)
    (fun _ => 0) ⟨fun c w s => mem_L c _ (), fun c w s => stage_level c w s, fun c t g i h => level_cut m c t g i h⟩
    (fun _ => iprop(emp)) (fun c w => arr_start m c w) (fun c w => arr_end m c w)

end Cert.Ring

end
-- ==== Proof.Launch.lean ====
/- The run: the exchange's cells funded at the launch and dealt to the devices, @main as its host lines around the kernel's
   region, and what every final state of the machine holds. -/
module

public import proofs.«01_k».proof.Proof.Region

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
local notation "𝕄" => MT nD τ sig Unit (Elt F) ℕ UU ℕ
variable (m : (ℓ : Loc nD τ sig) → Buf (Elt F) ℓ) (ρ : Dev nD → PrngReg)

/-! ## @main's three segments -/

local notation "ℍ" => Pipeline.HostSeg (Name := ℕ) (U := UU) (pcfgs (F := F)) defs₀ 𝒱₀ L lv

theorem ops0_sub : ∀ op ∈ (hostOps0 : List (HloOp τ sig (Elt F))), op.bufs ⊆ Pipeline.ucRefs τ sig := fun op h =>
  Pipeline.sub_ucRefs op (List.forall_iff_forall_mem.mp hostOps0_sub op h)
theorem ops1_sub : ∀ op ∈ (hostOps1 : List (HloOp τ sig (Elt F))), op.bufs ⊆ Pipeline.ucRefs τ sig := fun op h =>
  Pipeline.sub_ucRefs op (List.forall_iff_forall_mem.mp hostOps1_sub op h)

/-- Each device's buffers at launch. -/
abbrev W0 (c : Dev nD) : Valuation τ sig (Elt F) := fun b => m (c, b)
/-- What a device carries past the host lines before the region. -/
def carry (c : Dev nD) : sProp 𝕄 := iprop(Tk m c ∗ (∃ r, prngReg c r) ∗ ∃ W, owes (c : Thread nD τ) (owed₀ c) W)
/-- And past those after it. -/
def carry' (c : Dev nD) : sProp 𝕄 := iprop(Yk c ∗ ∃ W, owes (c : Thread nD τ) (0 : CellTallies nD τ sig Unit) W)

def before : ℍ := Pipeline.HostSeg.ofOps _ _ _ _ _ (Pipeline.ucRefs τ sig) hostOps0 ops0_sub
  (List.forall_iff_forall_mem.mp hostOps0_fresh) (W0 m) (carry m)
def after : ℍ := Pipeline.HostSeg.ofOps _ _ _ _ _ (Pipeline.ucRefs τ sig) hostOps1 ops1_sub
  (List.forall_iff_forall_mem.mp hostOps1_fresh) (Wn m) carry'

/-- Each device's buffers at the end. -/
abbrev Wend (c : Dev nD) : Valuation τ sig (Elt F) := StableHlo.after hostOps1 (Wn m c)

def segs : List (Pipeline.Seg (pcfgs (F := F)) adm (pdats m) () defs₀ 𝒱₀ L lv) :=
  [.host (before m), .region (region m), .host (after m)]

theorem main_eq (c : Dev nD) : main (F := F) c = Pipeline.Seg.run (segs m) :=
  main_segs adm (pdats m) () 𝒱₀ L lv (before m) (after m) (region m) rfl rfl c

theorem into_region (c : Dev nD) : iprop(StableHlo.held (c : Thread nD τ) (Pipeline.ucRefs τ sig) (V0 m c) ∗ carry m c)
    ⊢ (region m).pre c := by
  show _ ⊢ iprop(StableHlo.held (c.tc : Thread nD τ) arrs (V0 m c) ∗ (∃ r, prngReg c r)
    ∗ (StableHlo.held (c.tc : Thread nD τ) others (V0 m c) ∗ emp) ∗ Tk m c ∗ ∃ Wd, owes (c : Thread nD τ) (0 + owed₀ c) Wd)
  rw [StableHlo.held_sub_split (c : Thread nD τ) arrs_sub (V0 m c), zero_add]
  unfold carry
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem out_of_region (c : Dev nD) : (region m).post c
    ⊢ iprop(StableHlo.held (c : Thread nD τ) (Pipeline.ucRefs τ sig) (Wn m c) ∗ carry' c) := by
  show iprop(StableHlo.held (c.tc : Thread nD τ) arrs (Wn m c) ∗ (∃ r, prngReg c r)
    ∗ (StableHlo.held (c.tc : Thread nD τ) others (Wn m c) ∗ emp) ∗ Yk c ∗ ∃ Wd, owes (c : Thread nD τ) (0 : CellTallies nD τ sig Unit) Wd) ⊢ _
  rw [StableHlo.held_sub_split (c : Thread nD τ) arrs_sub (Wn m c)]
  unfold carry'
  iintro ⟨Ha, -, ⟨Ho, -⟩, HY, HO⟩
  isplitl [Ha Ho]
  · isplitl [Ha] <;> iassumption
  isplitl [HY] <;> iassumption

/-! ## The launch -/

/-- The barrier cells are funded from their counters, the send and receive cells wait for the region to open them. -/
def barAt : Dev nD ↪ GSem nD τ sig := ⟨fun c => bar c, fun _ _ h => congrArg (fun g : GSem nD τ sig => g.1.1) h⟩
theorem osem_inj : Function.Injective osem := by decide
theorem osem_ne_bar : ∀ k : Fin 6, osem k ≠ .reg barS := by decide
def hopCell : Dev nD × Fin 6 ↪ GSem nD τ sig :=
  ⟨fun x => ((x.1 : Thread nD τ), osem x.2), fun _ _ h =>
    Prod.ext (congrArg (fun g : GSem nD τ sig => g.1.1) h) (osem_inj (congrArg Prod.snd h))⟩
abbrev barSet : Finset (GSem nD τ sig) := Finset.univ.map barAt
abbrev hopSet : Finset (GSem nD τ sig) := Finset.univ.map hopCell

/-- The eight payments at a device's own cells: two at its barrier, one at each send and at each receive semaphore. -/
abbrev paid : Fin 8 → SemLoc sig × Bool := fun
  | 0 => (.reg barS, true) | 1 => (.reg barS, false)
  | 2 => (.dma (sS 0), true) | 3 => (.dma (sS 1), true) | 4 => (.dma (sS 2), true)
  | 5 => (.dma (rS 0), true) | 6 => (.dma (rS 1), true) | 7 => (.dma (rS 2), true)
theorem paid_inj : Function.Injective paid := by decide
def duties : Finset (GSem nD τ sig × ℕ × Bool) :=
  Finset.univ.map ⟨fun x : Dev nD × Fin 8 => (((x.1 : Thread nD τ), (paid x.2).1), 0, (paid x.2).2), fun _ _ h =>
    Prod.ext (congrArg (fun t : GSem nD τ sig × ℕ × Bool => t.1.1.1) h)
      (paid_inj (Prod.ext (congrArg (fun t : GSem nD τ sig × ℕ × Bool => t.1.2) h) (congrArg (fun t : GSem nD τ sig × ℕ × Bool => t.2.2) h)))⟩

theorem sets_disjoint : Disjoint (barSet : Finset (GSem nD τ sig)) hopSet := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem bar_in (c : Dev nD) : bar c ∈ (barSet ∪ hopSet : Finset (GSem nD τ sig)) :=
  Finset.mem_union_left _ (Finset.mem_map_of_mem barAt (Finset.mem_univ c))
theorem hop_in (c : Dev nD) (k : Fin 6) : ((c : Thread nD τ), osem k) ∈ (barSet ∪ hopSet : Finset (GSem nD τ sig)) :=
  Finset.mem_union_right _ (Finset.mem_map_of_mem hopCell (Finset.mem_univ (c, k)))
theorem snd_in (c : Dev nD) (h : Fin 3) : snd c h ∈ (barSet ∪ hopSet : Finset (GSem nD τ sig)) := by
  fin_cases h
  · exact hop_in c 0
  · exact hop_in c 1
  · exact hop_in c 2
theorem rcv_in (c : Dev nD) (h : Fin 3) : rcv c h ∈ (barSet ∪ hopSet : Finset (GSem nD τ sig)) := by
  fin_cases h
  · exact hop_in c 3
  · exact hop_in c 4
  · exact hop_in c 5

def launched : URounds (GSem nD τ sig) Bool := launchOf barSet hopSet duties

def u₀ : UU :=
  (initOf (Pipeline.cells (Pipeline.pin (pcfgs (F := F)) adm) cellOf_inj) (Pipeline.launchToks (Pipeline.pin (pcfgs (F := F)) adm) cellOf_inj),
    launched)

/-- A resource parked whole on device 0. -/
def parked (X : sProp 𝕄) (c : Dev nD) : sProp 𝕄 := if c = 0 then X else iprop(emp)
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER launched))

/-- What every device may look up: all the cells' invariants, and that every barrier cell is open. -/
def known (κ : GSem nD τ sig → ℕ) : sProp 𝕄 :=
  iprop((bigSep (barSet ∪ hopSet) fun g => cellInv ER (rd m) (κ g) g) ∗ bigSep barSet fun g => reached ER g 0)
instance known_persistent (κ : GSem nD τ sig → ℕ) : BI.Persistent (known m κ) := by unfold known; infer_instance

/-- One of the invariants. -/
theorem known_inv (κ : GSem nD τ sig → ℕ) {g : GSem nD τ sig} (hg : g ∈ (barSet ∪ hopSet : Finset (GSem nD τ sig))) :
    known m κ ⊢ cellInv ER (rd m) (κ g) g := by
  have e : (bigSep (barSet ∪ hopSet) fun g => (cellInv ER (rd m) (κ g) g : sProp 𝕄)) ⊢ cellInv ER (rd m) (κ g) g := bigSep_elim hg
  unfold known
  iintro ⟨H, -⟩
  iapply e; iexact H
theorem known_bar (κ : GSem nD τ sig → ℕ) (c : Dev nD) : known m κ ⊢ reached ER (bar c) 0 := by
  have e : (bigSep barSet fun g => (reached ER g 0 : sProp 𝕄)) ⊢ reached ER (bar c) 0 :=
    bigSep_elim (Finset.mem_map_of_mem barAt (Finset.mem_univ c))
  unfold known
  iintro ⟨-, H⟩
  iapply e; iexact H

theorem known_hop (κ : GSem nD τ sig → ℕ) (c : Dev nD) (h : Fin 3) : known m κ ⊢ hopInv m κ c h := by
  unfold hopInv
  iintro #H
  isplitr; · iapply (known_inv m κ (snd_in c h)); iexact H
  isplitr; · iapply (known_inv m κ (rcv_in c h)); iexact H
  iapply (known_inv m κ (rcv_in (nxt c) h)); iexact H
theorem known_invs (κ : GSem nD τ sig → ℕ) (c : Dev nD) : known m κ ⊢ invs m κ c := by
  unfold invs barInv
  iintro #H
  isplitr
  · isplitr; · iapply (known_inv m κ (bar_in c)); iexact H
    isplitr; · iapply (known_inv m κ (bar_in (nxt c))); iexact H
    iapply (known_inv m κ (bar_in (prv c))); iexact H
  isplitr; · iapply (known_hop m κ c 0); iexact H
  isplitr; · iapply (known_hop m κ c 1); iexact H
  iapply (known_hop m κ c 2); iexact H

/-- What each device alone gets: its place at its barrier, the rights to open its six cells, the eight payments IT makes. -/
def opens (c : Dev nD) : sProp 𝕄 :=
  iprop((openTok ER (snd c 0) ∗ openTok ER (snd c 1) ∗ openTok ER (snd c 2))
    ∗ (openTok ER (rcv c 0) ∗ openTok ER (rcv c 1) ∗ openTok ER (rcv c 2)))
def pays (c : Dev nD) : sProp 𝕄 :=
  iprop((dutyTok ER (bar (prv c)) 0 true ∗ dutyTok ER (bar (nxt c)) 0 false) ∗ (hopTok c 0 ∗ hopTok c 1 ∗ hopTok c 2))
def alone (c : Dev nD) : sProp 𝕄 := iprop(atPos ER (bar c) 0 ∅ 0 ∗ opens c ∗ pays c)

theorem ghost_of (κ : GSem nD τ sig → ℕ) (c : Dev nD) : iprop(known m κ ∗ alone c) ⊢ iprop(∃ K, ghost m K c) := by
  unfold alone ghost
  iintro ⟨#H, Ha, Ho, Hp⟩
  iexists κ
  isplitr; · iapply (known_invs m κ c); iexact H
  isplitr
  · isplitr; · iapply (known_bar m κ (nxt c)); iexact H
    iapply (known_bar m κ (prv c)); iexact H
  isplitl [Ha]; · iexact Ha
  isplitl [Ho]; · unfold opens; iexact Ho
  unfold pays; iexact Hp

/-- The rights to open, device by device. -/
theorem deal_opens : bigSep hopSet (fun g => (openTok ER g : sProp 𝕄)) ⊢ bigSep Finset.univ fun c : Dev nD => (opens c : sProp 𝕄) := by
  rw [bigSep_map, bigSep_univ_prod]
  refine bigSep_mono fun c _ => ?_
  refine (Entails.of_eq (osem_eq fun s => (openTok ER ((c : Thread nD τ), s) : sProp 𝕄))).trans ?_
  unfold opens
  iintro ⟨A, B, C, D, E, F⟩
  isplitl [A B C]
  · isplitl [A]; · iexact A
    isplitl [B] <;> iassumption
  isplitl [D]; · iexact D
  isplitl [E] <;> iassumption

/-- The payments by the device whose cell they are made at. -/
def owned (c : Dev nD) : sProp 𝕄 :=
  iprop(dutyTok ER (bar c) 0 true ∗ dutyTok ER (bar c) 0 false
    ∗ dutyTok ER (snd c 0) 0 true ∗ dutyTok ER (snd c 1) 0 true ∗ dutyTok ER (snd c 2) 0 true
    ∗ dutyTok ER (rcv c 0) 0 true ∗ dutyTok ER (rcv c 1) 0 true ∗ dutyTok ER (rcv c 2) 0 true)
theorem owned_eq : bigSep duties (fun x => (dutyTok ER x.1 x.2.1 x.2.2 : sProp 𝕄)) = bigSep Finset.univ fun c : Dev nD => owned c := by
  unfold duties; rw [bigSep_map, bigSep_univ_prod]
  refine bigSep_congr fun c _ => ?_
  unfold owned
  exact bigSep_univ_eq_bigSepL [(0 : Fin 8), 1, 2, 3, 4, 5, 6, 7] (by decide) (by decide)
    fun k : Fin 8 => (dutyTok ER ((c : Thread nD τ), (paid k).1) 0 (paid k).2 : sProp 𝕄)

/-- The payments by the device that makes them. -/
theorem deal_pays : (bigSep Finset.univ fun c : Dev nD => (owned c : sProp 𝕄)) ⊢ bigSep Finset.univ fun c : Dev nD => pays c := by
  have e (Φ : Dev nD → sProp 𝕄) : bigSep Finset.univ Φ = bigSep Finset.univ fun c => Φ (nxt c) := bigSep_univ_equiv turn Φ
  have e' (Φ : Dev nD → sProp 𝕄) : bigSep Finset.univ Φ = bigSep Finset.univ fun c => Φ (prv c) := bigSep_univ_equiv back Φ
  unfold owned pays hopTok
  simp only [bigSep_sep']
  rw [e' fun c => dutyTok ER (bar c) 0 true, e fun c => dutyTok ER (bar c) 0 false, e fun c => dutyTok ER (rcv c 0) 0 true,
    e fun c => dutyTok ER (rcv c 1) 0 true, e fun c => dutyTok ER (rcv c 2) 0 true]
  iintro ⟨A, B, S0, S1, S2, R0, R1, R2⟩
  isplitl [A B]; · isplitl [A] <;> iassumption
  isplitl [S0 R0]; · isplitl [S0] <;> iassumption
  isplitl [S1 R1]; · isplitl [S1] <;> iassumption
  isplitl [S2] <;> iassumption

/-! ### The launch credit -/

theorem rcv_inj {d c : Dev nD} {k h : Fin 3} : rcv c h = rcv d k ↔ c = d ∧ h = k :=
  ⟨fun e => ⟨congrArg (fun g : GSem nD τ sig => g.1.1) e, by
      have e' : (SemLoc.dma (rS h) : SemLoc sig) = .dma (rS k) := congrArg (fun g : GSem nD τ sig => g.2) e
      clear e; revert h k; decide⟩, fun e => by rw [e.1, e.2]⟩
theorem bar_ne_rcv {d c : Dev nD} {k : Fin 3} : bar d ≠ rcv c k := fun e => nomatch congrArg (fun g : GSem nD τ sig => g.2) e

theorem owed_bar (d c : Dev nD) : owed₀ d (bar c) () = (if d = prv c then 1 else 0) + if d = nxt c then 1 else 0 := by
  unfold owed₀ oweN owe0 owe1 owe2
  simp only [Pi.add_apply, Finsupp.add_apply, Pi.zero_apply, Finsupp.zero_apply, tallyAt_ne_cell bar_ne_rcv, Nat.zero_add, tallyAt_apply]
  congr 1
  · exact if_congr ⟨fun h => by rw [show c = nxt d from congrArg (fun g : GSem nD τ sig => g.1.1) h.1, prv_nxt],
      fun h => by rw [h, nxt_prv]; exact ⟨rfl, trivial⟩⟩ rfl rfl
  · exact if_congr ⟨fun h => by rw [show c = prv d from congrArg (fun g : GSem nD τ sig => g.1.1) h.1, nxt_prv],
      fun h => by rw [h, prv_nxt]; exact ⟨rfl, trivial⟩⟩ rfl rfl

theorem tally_rcv (d c : Dev nD) (k h : Fin 3) :
    tallyAt (rcv (nxt d) k) () N (rcv c h) () = if d = prv c ∧ h = k then N else 0 := by
  rw [tallyAt_apply]
  exact if_congr ⟨fun e => by obtain ⟨rfl, rfl⟩ := rcv_inj.mp e.1; exact ⟨(prv_nxt d).symm, rfl⟩,
    fun e => by rw [e.1, e.2, nxt_prv]; exact ⟨rfl, rfl⟩⟩ rfl rfl

theorem owed_rcv (d c : Dev nD) (h : Fin 3) : owed₀ d (rcv c h) () = if d = prv c then N else 0 := by
  unfold owed₀ oweN owe0 owe1 owe2
  simp only [Pi.add_apply, Finsupp.add_apply, Pi.zero_apply, Finsupp.zero_apply, tallyAt_ne_cell (Ne.symm bar_ne_rcv), Nat.zero_add,
    Nat.add_zero]
  rw [tally_rcv, tally_rcv, tally_rcv]
  by_cases e : d = prv c
  · rw [if_pos e]
    fin_cases h <;> simp [e]
  · rw [if_neg e, if_neg fun h => e h.1, if_neg fun h => e h.1, if_neg fun h => e h.1]

theorem launch_bar (c : Dev nD) :
    tallyOn (bar c) (launchCredit (Pipeline.owing owed₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _),
    if_pos (Finset.mem_univ _)]
theorem launch_rcv (c : Dev nD) (h : Fin 3) :
    tallyOn (rcv c h) (launchCredit (Pipeline.owing owed₀) 0 (rcv c h)) = (tallyAt (rcv c h) () N : CellTallies nD τ sig Unit) := by
  unfold tallyAt; refine congrArg _ (Finsupp.ext fun u => ?_); cases u
  rw [Pipeline.launchCredit_owing, Finsupp.single_eq_same, Finset.sum_congr rfl fun d _ => owed_rcv d c h,
    Finset.sum_ite_eq' Finset.univ (prv c) fun _ => N, if_pos (Finset.mem_univ _)]

theorem credits (c : Dev nD) : (Pipeline.launchCred owed₀ c : sProp 𝕄) ⊢ creds c := by
  unfold Pipeline.launchCred creds hopCred
  rw [bigSep_univ_at _ (SemLoc.reg barS), launch_bar,
    bigSep_erase (i := SemLoc.dma (rS 0)) (by decide), launch_rcv c 0,
    bigSep_erase (i := SemLoc.dma (rS 1)) (by decide), launch_rcv c 1, ← launch_rcv c 2]
  refine sep_mono_right (sep_mono_right (sep_mono_right ?_))
  exact bigSep_elim (i := SemLoc.dma (rS 2)) (by decide)

/-! ### From the launch to the first segment -/

abbrev T₀ (c : Dev nD) : sProp 𝕄 := iprop(StableHlo.held (c : Thread nD τ) (Pipeline.ucRefs τ sig) (W0 m c) ∗ carry m c)
abbrev Tₙ (c : Dev nD) : sProp 𝕄 := iprop(StableHlo.held (c : Thread nD τ) (Pipeline.ucRefs τ sig) (Wend m c) ∗ Yk c)

theorem bar_sem (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem unpair (Φ Ψ : Dev nD → sProp 𝕄) : bigSep Finset.univ (fun c => iprop(Φ c ∗ Ψ c)) ⊢ iprop(bigSep Finset.univ Φ ∗ bigSep Finset.univ Ψ) :=
  Entails.of_eq (bigSep_sep' _ Φ Ψ)
theorem pair (Φ Ψ : Dev nD → sProp 𝕄) : iprop(bigSep Finset.univ Φ ∗ bigSep Finset.univ Ψ) ⊢ bigSep Finset.univ (fun c => iprop(Φ c ∗ Ψ c)) :=
  Entails.of_eq (bigSep_sep' _ Φ Ψ).symm

/-- What a device holds at launch that is none of the exchange's. -/
def plain (c : Dev nD) : sProp 𝕄 :=
  iprop(StableHlo.held (c : Thread nD τ) (Pipeline.ucRefs τ sig) (W0 m c) ∗ creds c ∗ owes (c : Thread nD τ) (owed₀ c) ∅ ∗ ∃ r, prngReg c r)

theorem T₀_of (κ : GSem nD τ sig → ℕ) (c : Dev nD) : iprop(known m κ ∗ (alone c ∗ plain m c)) ⊢ T₀ m c := by
  unfold plain T₀ carry Tk
  iintro ⟨HK, HA, Hh, Hc, HO, Hp⟩
  isplitl [Hh]; · iexact Hh
  isplitl [HK HA Hc]
  · isplitl [HK HA]
    · iapply (ghost_of m κ c)
      isplitl [HK] <;> iassumption
    iexact Hc
  isplitl [Hp]; · iexact Hp
  iexists ∅; iexact HO

abbrev atLaunch (c : Dev nD) : sProp 𝕄 := iprop(unscopedBufs c (fun b => m ((c : Thread nD τ).loc b)) ∗ unscopedSems0 c
  ∗ owes (c : Thread nD τ) (owed₀ c) ∅ ∗ Pipeline.launchCred owed₀ c ∗ prngReg c (ρ c) ∗ G c)

theorem sort_launch (c : Dev nD) : atLaunch m ρ c ⊢ iprop(plain m c ∗ (semVal (bar c) 0 ∗ G c)) := by
  unfold atLaunch
  rw [show unscopedBufs c (fun b => m ((c : Thread nD τ).loc b)) = StableHlo.held (c : Thread nD τ) (Pipeline.ucRefs τ sig) (W0 m c) from
    Pipeline.unscopedBufs_held c (W0 m c), bar_sem]
  unfold plain
  iintro ⟨Hh, Hs, HO, Hc, Hp, HG⟩
  isplitr [Hs HG]
  · isplitl [Hh]; · iexact Hh
    isplitl [Hc]; · iapply (credits (F := F) c); iexact Hc
    isplitl [HO]; · iexact HO
    iexists (ρ c); iexact Hp
  isplitl [Hs] <;> iassumption

theorem init : iprop((bigSep Finset.univ fun c : Dev nD => atLaunch m ρ c) ∗ levAts L lv)
    ⊢ (|={Set.univ}=> bigSep Finset.univ (T₀ m) : sProp 𝕄) := by
  have hs : (bigSep Finset.univ fun c : Dev nD => atLaunch m ρ c)
      ⊢ (bigSep Finset.univ fun c : Dev nD => iprop(plain m c ∗ (semVal (bar c) 0 ∗ G c)) : sProp 𝕄) :=
    bigSep_mono fun c _ => sort_launch m ρ c
  have hb : bigSep Finset.univ (fun c : Dev nD => (semVal (bar c) 0 : sProp 𝕄)) ⊢ bigSep barSet (fun g => (semVal g 0 : sProp 𝕄)) :=
    Entails.of_eq (bigSep_map (s := Finset.univ) barAt (Φ := fun g : GSem nD τ sig => (semVal g 0 : sProp 𝕄))).symm
  have ha : bigSep barSet (fun g => (atPos ER g 0 ∅ 0 : sProp 𝕄)) ⊢ bigSep Finset.univ (fun c : Dev nD => (atPos ER (bar c) 0 ∅ 0 : sProp 𝕄)) :=
    Entails.of_eq (bigSep_map (s := Finset.univ) barAt (Φ := fun g : GSem nD τ sig => (atPos ER g 0 ∅ 0 : sProp 𝕄)))
  have hg : bigSep Finset.univ (G (F := F)) ⊢ BI.own (ER (launchOf barSet hopSet duties)) :=
    Entails.of_eq (parked_all (F := F) (BI.own (ER launched)))
  iintro ⟨H, -⟩
  ihave H := hs $$ H
  ihave H := (unpair _ _) $$ H; icases H with ⟨Hp, H⟩
  ihave H := (unpair _ _) $$ H; icases H with ⟨Hb, HG⟩
  imod (Rounds.fund_launch ER (rd m) sets_disjoint (fun g _ h => h) duties) $$ [Hb HG] with ⟨%κ, -, #HI, #HR, Hat, Hopen, Htok⟩
  · isplitl [Hb]
    · iapply hb; iexact Hb
    iapply hg; iexact HG
  imodintro
  iapply (bigSep_with_persistent (R := known m κ) (Φ := fun c => iprop(alone c ∗ plain m c)) fun c _ => T₀_of m κ c)
  isplitr
  · unfold known
    isplitr; · iexact HI
    iexact HR
  iapply (pair _ _)
  isplitr [Hp]
  · unfold alone
    iapply (pair _ _); isplitl [Hat]; · iapply ha; iexact Hat
    iapply (pair _ _); isplitl [Hopen]; · iapply (deal_opens (F := F)); iexact Hopen
    iapply (deal_pays (F := F))
    iapply (Entails.of_eq (owned_eq (F := F))); iexact Htok
  iexact Hp

/-! ## The run -/

/-- No host line and no write of the kernel reaches an argument. -/
theorem end_arg (c : Dev nD) (b : Ref sig .tc) (h8 : b ≠ main_v8) (h9 : b ≠ main_v9) (h10 : b ≠ main_v10) :
    Wend m c (Proc.devRef .tc b) = V0 m c (Proc.devRef .tc b) := by
  refine (StableHlo.after_of_forall_not_mem (b := Proc.devRef .tc b) _ _ (List.forall_iff_forall_mem.mp ?_)).trans
    (Wn_of_ne m c (StableHlo.devRef_ne_of_ne h8))
  simp only [hostOps1, List.Forall, StableHlo.unary_writes, StableHlo.reshape_writes, Finset.mem_singleton]
  exact ⟨StableHlo.devRef_ne_of_ne h9, StableHlo.devRef_ne_of_ne h10⟩

/-- The buffers the run is asked about. -/
abbrev asked : Finset (DevRef τ sig) := {Proc.devRef .tc main_arg0, Proc.devRef .tc main_arg1, Proc.devRef .tc main_arg2, Proc.devRef .tc main_v10}
theorem asked_sub : asked ⊆ Pipeline.ucRefs τ sig := by decide

theorem held_asked (c : Dev nD) (W : Valuation τ sig (Elt F)) : (StableHlo.held (c : Thread nD τ) asked W : sProp 𝕄)
    = iprop(pt c main_arg0 (W main_arg0) ∗ pt c main_arg1 (W main_arg1) ∗ pt c main_arg2 (W main_arg2) ∗ pt c main_v10 (W main_v10)) := by
  unfold StableHlo.held asked
  rw [bigSep_insert (by decide), bigSep_insert (by decide), bigSep_insert (by decide), bigSep_singleton]
  rfl

theorem only_bar : ∀ sm : SemLoc sig, sm.isScoped .tc = false → sm = .reg barS := by decide

set_option backward.isDefEq.respectTransparency.types false in
/-- From any memory with every counter at zero, every fair execution of @main on the four devices ends, with the arguments as they
    were, each device's result the host lines' image of what the kernel's body leaves, and every counter at zero. -/
theorem run_main : θ_run defs (onTc (τ := τ) (main (F := F))) (s₀ m ρ)
    (fun r => (∀ c : Dev nD, r.2.mem ((c : Thread nD τ).loc main_v10) = Wend m c main_v10
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => into_region m c, fun c => out_of_region m c, fun c => ?_⟩
      show iprop(StableHlo.held (c : Thread nD τ) (Pipeline.ucRefs τ sig) (Wend m c) ∗ carry' c)
        ⊢ iprop(Tₙ m c ∗ ∃ W, owes (c : Thread nD τ) (0 : CellTallies nD τ sig Unit) W)
      unfold carry'
      iintro ⟨Hh, HY, HO⟩
      isplitr [HO]
      · isplitl [Hh] <;> iassumption
      iexact HO)
    (hinit := init m ρ)
    (QY := fun c s => (s.mem ((Memref.whole main_arg0).view.loc (c : Thread nD τ)) = Wend m c main_arg0
        ∧ s.mem ((Memref.whole main_arg1).view.loc (c : Thread nD τ)) = Wend m c main_arg1
        ∧ s.mem ((Memref.whole main_arg2).view.loc (c : Thread nD τ)) = Wend m c main_arg2
        ∧ s.mem ((Memref.whole main_v10).view.loc (c : Thread nD τ)) = Wend m c main_v10)
      ∧ s.sem (bar c) = 0)
    (hfin := fun c s' => by
      dsimp only [Tₙ]
      rw [StableHlo.held_sub_split (c : Thread nD τ) asked_sub, held_asked]
      unfold Yk
      iintro ⟨⟨⟨⟨H0, H1, H2, H10⟩, -⟩, Hb⟩, HSI⟩
      icombine HSI H0 gives %h0
      icombine HSI H1 gives %h1
      icombine HSI H2 gives %h2
      icombine HSI H10 gives %h10
      icombine HSI Hb gives %hb
      imodintro
      isplitr
      · ipureintro
        exact ⟨⟨Buf.eq_of_forall_mem_univ h0, Buf.eq_of_forall_mem_univ h1, Buf.eq_of_forall_mem_univ h2,
          Buf.eq_of_forall_mem_univ h10⟩, by simpa using hb⟩
      iexact HSI)
    (hQ := fun s h hs => ⟨fun c => by
        obtain ⟨⟨h0, h1, h2, h10⟩, -⟩ := h c
        refine ⟨h10, h0.trans ?_, h1.trans ?_, h2.trans ?_⟩
        · exact (end_arg m c main_arg0 (by decide) (by decide) (by decide)).trans (V_main_arg0 m c)
        · exact (end_arg m c main_arg1 (by decide) (by decide) (by decide)).trans (V_main_arg1 m c)
        · exact (end_arg m c main_arg2 (by decide) (by decide) (by decide)).trans (V_main_arg2 m c),
      sem_eq_zero hs fun c sm hsm => by
        obtain rfl := only_bar sm hsm
        exact (h c).2⟩)

end Cert.Ring

end
-- ==== Proof.Softmax.lean ====
/- Softmax over the extended reals, of real scores and arbitrary values: the plain form, which divides each weight by
   the weights' sum, and the running form, which goes over the keys block by block, rescales what it has at each new
   shift and divides once at the end, have one value. The shift is any real number: that it is a maximum is not used. -/
module

public import Idealize.ShloMosaic.PureOps.Ideal

@[expose] public section

noncomputable section

namespace Cert.Softmax

open Idealize.ShloMosaic

variable {ι κ : Type} [Fintype ι] [Fintype κ]

theorem coe_sum (A : Finset ι) (f : ι → ℝ) : ((∑ k ∈ A, f k : ℝ) : EReal) = ∑ k ∈ A, (f k : EReal) := by
  classical
  induction A using Finset.induction_on with
  | empty => simp
  | insert a A h ih => rw [Finset.sum_insert h, Finset.sum_insert h, EReal.coe_add, ih]

/-- A nonnegative real factor goes through a sum of any extended reals. -/
theorem coe_mul_sum {c : ℝ} (hc : 0 ≤ c) (A : Finset ι) (f : ι → EReal) :
    (c : EReal) * ∑ k ∈ A, f k = ∑ k ∈ A, (c : EReal) * f k := by
  classical
  induction A using Finset.induction_on with
  | empty => simp
  | insert a A h ih =>
    rw [Finset.sum_insert h, Finset.sum_insert h,
      EReal.left_distrib_of_nonneg_of_ne_top (EReal.coe_nonneg.2 hc) (EReal.coe_ne_top c), ih]

theorem exp_coe_sub (a b : ℝ) : Ideal.exp ((a : EReal) - (b : EReal)) = (Real.exp (a - b) : EReal) := by
  rw [← EReal.coe_sub]; rfl

theorem coe_max (a b : ℝ) : ((max a b : ℝ) : EReal) = max (a : EReal) (b : EReal) := EReal.coe_strictMono.monotone.map_max

/-- The greatest of finitely many reals, from −∞, is a real. -/
theorem fold_max_real [Nonempty ι] (f : ι → EReal) (hf : ∀ k, ∃ r : ℝ, f k = r) :
    ∃ r : ℝ, (Finset.univ : Finset ι).fold max (⊥ : EReal) f = r := by
  classical
  have h : ∀ A : Finset ι, A.Nonempty → ∃ r : ℝ, A.fold max (⊥ : EReal) f = r := fun A hA => by
    induction hA using Finset.Nonempty.cons_induction with
    | singleton a => obtain ⟨r, hr⟩ := hf a; exact ⟨r, by rw [Finset.fold_singleton, max_bot_right, hr]⟩
    | cons a A h _ ih =>
      obtain ⟨r, hr⟩ := hf a; obtain ⟨t, ht⟩ := ih
      exact ⟨max r t, by rw [Finset.fold_cons, hr, ht, coe_max]⟩
  exact h _ Finset.univ_nonempty

theorem max_real {x y : EReal} (hx : ∃ r : ℝ, x = r) (hy : ∃ r : ℝ, y = r) : ∃ r : ℝ, max x y = r := by
  obtain ⟨a, rfl⟩ := hx; obtain ⟨b, rfl⟩ := hy; exact ⟨max a b, (coe_max a b).symm⟩

/-- The softmax weight of a key. -/
def weight (s : ι → ℝ) (k : ι) : ℝ := Real.exp (s k) / ∑ j, Real.exp (s j)

/-- The values mixed by the softmax of the scores. -/
def mix (s : ι → ℝ) (v : ι → EReal) : EReal := ∑ k, (weight s k : EReal) * v k

theorem mix_equiv (e : ι ≃ κ) (s : κ → ℝ) (v : κ → EReal) : mix (s ∘ e) (v ∘ e) = mix s v := by
  have hw : ∀ k, weight (s ∘ e) k = weight s (e k) := fun k => by
    simp only [weight, Function.comp]; rw [Equiv.sum_comp e fun j => Real.exp (s j)]
  simp only [mix, hw]
  exact Equiv.sum_comp e fun k => (weight s k : EReal) * v k

/-- A weight may be taken at any shift of the scores. -/
theorem weight_shift (s : ι → ℝ) (μ : ℝ) (k : ι) :
    Real.exp (s k - μ) * (∑ j, Real.exp (s j - μ))⁻¹ = weight s k := by
  have h : ∀ j, Real.exp (s j - μ) = Real.exp (-μ) * Real.exp (s j) := fun j => by rw [← Real.exp_add]; congr 1; ring
  simp only [h, ← Finset.mul_sum, weight]
  rw [mul_inv, div_eq_mul_inv]
  have := (Real.exp_pos (-μ)).ne'
  field_simp

theorem total_pos [Nonempty ι] (s : ι → ℝ) (μ : ℝ) : 0 < ∑ j, Real.exp (s j - μ) :=
  Finset.sum_pos (fun _ _ => Real.exp_pos _) Finset.univ_nonempty

theorem div_coe_pos (x : EReal) {c : ℝ} (hc : 0 < c) : Ideal.div x (c : EReal) = x * ((c⁻¹ : ℝ) : EReal) := by
  unfold Ideal.div
  rw [if_neg (by exact_mod_cast hc.ne'), EReal.coe_inv]

/-- The plain form: weights at a shift, each divided by their sum. -/
theorem plain_eq [Nonempty ι] (s : ι → ℝ) (v : ι → EReal) (μ : ℝ) :
    ∑ k, v k * Ideal.div (Ideal.exp ((s k : EReal) - (μ : EReal))) (∑ j, Ideal.exp ((s j : EReal) - (μ : EReal)))
      = mix s v := by
  simp only [exp_coe_sub, ← coe_sum]
  refine Finset.sum_congr rfl fun k _ => ?_
  rw [div_coe_pos _ (total_pos s μ), ← EReal.coe_mul, weight_shift, mul_comm]

/-! ### The running form, over blocks of keys -/

section Running

variable [DecidableEq κ] (s : κ → ι → ℝ) (v : κ → ι → EReal)

/-- The weights' sum over the blocks in `O`, at a shift. -/
def mass (O : Finset κ) (μ : ℝ) : ℝ := ∑ o ∈ O, ∑ j, Real.exp (s o j - μ)

/-- The values' weighted sum over the blocks in `O`, at a shift. -/
def load (O : Finset κ) (μ : ℝ) : EReal := ∑ o ∈ O, ∑ j, (Real.exp (s o j - μ) : EReal) * v o j

theorem exp_shift (x μ μ' : ℝ) : Real.exp (x - μ) * Real.exp (μ - μ') = Real.exp (x - μ') := by
  rw [← Real.exp_add]; congr 1; ring

/-- One block more, at a new shift: the old sum is rescaled. -/
theorem mass_step {O : Finset κ} {o : κ} (ho : o ∉ O) (μ μ' : ℝ) :
    (mass s O μ : EReal) * Ideal.exp ((μ : EReal) - (μ' : EReal)) + ∑ j, Ideal.exp ((s o j : EReal) - (μ' : EReal))
      = (mass s (insert o O) μ' : EReal) := by
  simp only [exp_coe_sub, ← coe_sum]
  rw [← EReal.coe_mul, ← EReal.coe_add]
  congr 1
  simp only [mass, Finset.sum_mul, exp_shift, Finset.sum_insert ho, add_comm]

theorem load_step {O : Finset κ} {o : κ} (ho : o ∉ O) (μ μ' : ℝ) :
    load s v O μ * Ideal.exp ((μ : EReal) - (μ' : EReal)) + ∑ j, Ideal.exp ((s o j : EReal) - (μ' : EReal)) * v o j
      = load s v (insert o O) μ' := by
  simp only [exp_coe_sub]
  rw [load, load, Finset.sum_insert ho, add_comm, mul_comm, coe_mul_sum (Real.exp_pos _).le]
  congr 1
  refine Finset.sum_congr rfl fun p _ => ?_
  rw [coe_mul_sum (Real.exp_pos _).le]
  refine Finset.sum_congr rfl fun j _ => ?_
  rw [← mul_assoc, ← EReal.coe_mul, mul_comm (Real.exp _), exp_shift]

/-- The first block: the start, at −∞ with sums zero, leaves nothing. -/
theorem mass_first (o : κ) (μ' : ℝ) :
    (0 : EReal) * Ideal.exp (⊥ - (μ' : EReal)) + ∑ j, Ideal.exp ((s o j : EReal) - (μ' : EReal)) = (mass s {o} μ' : EReal) := by
  simp only [exp_coe_sub, ← coe_sum]
  rw [zero_mul, zero_add, mass, Finset.sum_singleton]

theorem load_first (o : κ) (μ' : ℝ) :
    (0 : EReal) * Ideal.exp (⊥ - (μ' : EReal)) + ∑ j, Ideal.exp ((s o j : EReal) - (μ' : EReal)) * v o j
      = load s v {o} μ' := by
  simp only [exp_coe_sub]
  rw [zero_mul, zero_add, load, Finset.sum_singleton]

/-- The end: one division gives the softmax over all blocks' keys. -/
theorem running_eq [Fintype κ] [Nonempty κ] [Nonempty ι] (μ : ℝ) :
    Ideal.div (load s v Finset.univ μ) (mass s Finset.univ μ : EReal)
      = mix (fun p : κ × ι => s p.1 p.2) (fun p => v p.1 p.2) := by
  have hm : mass s Finset.univ μ = ∑ p : κ × ι, Real.exp (s p.1 p.2 - μ) := by rw [mass, Fintype.sum_prod_type]
  have hl : load s v Finset.univ μ = ∑ p : κ × ι, (Real.exp (s p.1 p.2 - μ) : EReal) * v p.1 p.2 := by
    rw [load, Fintype.sum_prod_type]
  have hp := total_pos (fun p : κ × ι => s p.1 p.2) μ
  rw [hm, hl, div_coe_pos _ hp, mul_comm, coe_mul_sum (inv_nonneg.2 hp.le), mix]
  refine Finset.sum_congr rfl fun p _ => ?_
  rw [← mul_assoc, ← EReal.coe_mul, mul_comm _ (Real.exp _), weight_shift (fun p : κ × ι => s p.1 p.2)]

end Running

end Cert.Softmax

end
-- ==== Proof.Rows.lean ====
/- What the kernel's body computes of one row of queries, over the extended reals: each payload at an index, and then
   the whole chain, the softmax over the four blocks of keys. -/
module

public import Idealize.ShloMosaic.Lib.Pointwise
public import proofs.«01_k».proof.Proof.Gen.KernelIdeal.Skeleton
public import proofs.«01_k».proof.Proof.Softmax

@[expose] public section

noncomputable section

namespace Cert.Ring

open Cert.KernelIdeal Cert.KernelIdeal.Gen Idealize.ShloMosaic Cert.Softmax

/-- A query's score against a key: the product of the two rows, scaled. -/
def score (q : Vec Ideal S16x256x64 .f32) (k : Vec Ideal S1x16x256x64 .f32) (g : Fin 16) (i j : Fin 256) : EReal :=
  (∑ e : Fin 64, q (ix3 g i e) * k (ix4 0 g j e)) * Ideal.ofBits FTy.f32 0x3E000000#32

/-- The greatest of a row's scores. -/
def top (f : Fin 256 → EReal) : EReal := Finset.univ.fold max (Ideal.ofBits FTy.f32 0xFF800000#32) f

section Reads

variable (q : Vec Ideal S16x256x64 .f32) (mm ll al : FVec Ideal S16x256x1 .f32) (acc : FVec Ideal S16x256x64 .f32)
  (p : FVec Ideal S16x256x256 .f32) (k k' v v' : Vec Ideal S1x16x256x64 .f32) (g : Fin 16) (i j : Fin 256) (e : Fin 64)

theorem read3 : k0_pay3 q = q := by funext x; obtain ⟨a, b, d, rfl⟩ : ∃ (a : Fin 16) (b : Fin 256) (d : Fin 64), x = ix3 a b d := ⟨x 0, x 1, x 2, eq_ix3 x⟩; pointwise [k0_pay3]
theorem read4 : (k0_pay4 (F := Ideal)) (ix3 g i 0) = Ideal.ofBits FTy.f32 0xFF800000#32 := by pointwise [k0_pay4]
theorem read5 : (k0_pay5 (F := Ideal)) (ix3 g i 0) = 0 := by pointwise [k0_pay5]
theorem read6 : k0_pay6 q k (ix3 g i j) = score q k g i j := by unfold score; pointwise [k0_pay6]
theorem read7 : k0_pay7 q mm k (ix3 g i 0) = max (mm (ix3 g i 0)) (top (score q k g i)) := by
  unfold top; simp only [← read6]; pointwise [k0_pay7]
theorem read8 : k0_pay8 q mm k (ix3 g i 0) = Ideal.exp (mm (ix3 g i 0) - k0_pay7 q mm k (ix3 g i 0)) := by pointwise [k0_pay8]
theorem read9 : k0_pay9 q mm k (ix3 g i j) = Ideal.exp (score q k g i j - k0_pay7 q mm k (ix3 g i 0)) := by
  rw [← read6]; pointwise [k0_pay9]
theorem read10 : k0_pay10 q mm k v (ix3 g i e)
    = 0 * k0_pay8 q mm k (ix3 g i 0) + ∑ x, k0_pay9 q mm k (ix3 g i x) * v (ix4 0 g x e) := by pointwise [k0_pay10]
theorem read11 : k0_pay11 q k (ix3 g i j) = score q k g i j := by unfold score; pointwise [k0_pay11]
theorem read12 : k0_pay12 q mm k k' (ix3 g i 0) = max (k0_pay7 q mm k (ix3 g i 0)) (top (score q k' g i)) := by
  unfold top; simp only [← read11]; pointwise [k0_pay12]
theorem read13 : k0_pay13 q mm k k' (ix3 g i 0)
    = Ideal.exp (k0_pay7 q mm k (ix3 g i 0) - k0_pay12 q mm k k' (ix3 g i 0)) := by pointwise [k0_pay13]
theorem read14 : k0_pay14 q mm k k' (ix3 g i j) = Ideal.exp (score q k' g i j - k0_pay12 q mm k k' (ix3 g i 0)) := by
  rw [← read11]; pointwise [k0_pay14]
theorem read15 : k0_pay15 q mm ll k k' (ix3 g i 0)
    = (ll (ix3 g i 0) * k0_pay8 q mm k (ix3 g i 0) + ∑ x, k0_pay9 q mm k (ix3 g i x)) * k0_pay13 q mm k k' (ix3 g i 0) := by
  pointwise [k0_pay15]
theorem read16 : k0_pay16 q k (ix3 g i j) = score q k g i j := by unfold score; pointwise [k0_pay16]
theorem read17 : k0_pay17 q mm k (ix3 g i 0) = max (mm (ix3 g i 0)) (top (score q k g i)) := by
  unfold top; simp only [← read16]; pointwise [k0_pay17]
theorem read18 : k0_pay18 q mm k (ix3 g i 0) = Ideal.exp (mm (ix3 g i 0) - k0_pay17 q mm k (ix3 g i 0)) := by
  pointwise [k0_pay18]
theorem read19 : k0_pay19 q mm k (ix3 g i j) = Ideal.exp (score q k g i j - k0_pay17 q mm k (ix3 g i 0)) := by
  rw [← read16]; pointwise [k0_pay19]
theorem read20 : k0_pay20 q mm p ll k (ix3 g i 0)
    = (ll (ix3 g i 0) + ∑ x, p (ix3 g i x)) * k0_pay18 q mm k (ix3 g i 0) + ∑ x, k0_pay19 q mm k (ix3 g i x) := by
  pointwise [k0_pay20]
theorem read21 : k0_pay21 q acc mm al p v k v' (ix3 g i e)
    = (acc (ix3 g i e) * al (ix3 g i 0) + ∑ x, p (ix3 g i x) * v (ix4 0 g x e)) * k0_pay18 q mm k (ix3 g i 0)
      + ∑ x, k0_pay19 q mm k (ix3 g i x) * v' (ix4 0 g x e) := by
  pointwise [k0_pay21]
theorem read22 : k0_pay22 q k (ix3 g i j) * (k0_pay23 (F := Ideal)) (ix3 g i j) = score q k g i j := by
  unfold score; pointwise [k0_pay22, k0_pay23]

/-- The last block's new maximum. -/
def lastMax (mm : FVec Ideal S16x256x1 .f32) (k : Vec Ideal S1x16x256x64 .f32) : EReal :=
  max (mm (ix3 g i 0)) (top (score q k g i))

theorem read1 : k0_pay1 mm ll acc (k0_pay22 q k) k0_pay23 v (ix3 g i e)
    = Ideal.div
        (acc (ix3 g i e) * Ideal.exp (mm (ix3 g i 0) - lastMax q g i mm k)
          + ∑ x, Ideal.exp (score q k g i x - lastMax q g i mm k) * v (ix4 0 g x e))
        (ll (ix3 g i 0) * Ideal.exp (mm (ix3 g i 0) - lastMax q g i mm k)
          + ∑ x, Ideal.exp (score q k g i x - lastMax q g i mm k)) := by
  unfold lastMax top; simp only [← read22]; pointwise [k0_pay1]

end Reads

end Cert.Ring

end
-- ==== Proof.Chain.lean ====
/- The body's whole chain at one index: the four blocks taken one after another, each rescaling what was gathered before
   it, come to the softmax over all the keys at once. -/
module

public import proofs.«01_k».proof.Proof.Rows

@[expose] public section

noncomputable section

namespace Cert.Ring

open Cert.KernelIdeal Cert.KernelIdeal.Gen Idealize.ShloMosaic Cert.Softmax

theorem bottom_word : Ideal.ofBits FTy.f32 0xFF800000#32 = ⊥ := by simp [Ideal.ofBits, Ideal.ieee]

theorem scale_word : ∃ r : ℝ, Ideal.ofBits FTy.f32 0x3E000000#32 = r := ⟨_, by simp [Ideal.ofBits, Ideal.ieee, -EReal.coe_mul]; rfl⟩

theorem top_real (f : Fin 256 → EReal) (s : Fin 256 → ℝ) (h : ∀ j, f j = s j) : ∃ r : ℝ, top f = r := by
  unfold top; rw [bottom_word]; exact fold_max_real f fun k => ⟨s k, h k⟩

/-- The result of the four blocks in their order, as the body computes it. -/
def chain (q : Vec Ideal S16x256x64 .f32) (K V : Fin 4 → Vec Ideal S1x16x256x64 .f32) : FVec Ideal S16x256x64 .f32 :=
  let acc := k0_pay10 q k0_pay4 (K 0) (V 0)
  let mx := k0_pay12 q k0_pay4 (K 0) (K 1)
  let al := k0_pay13 q k0_pay4 (K 0) (K 1)
  let p := k0_pay14 q k0_pay4 (K 0) (K 1)
  let l := k0_pay15 q k0_pay4 k0_pay5 (K 0) (K 1)
  k0_pay1 (k0_pay17 q mx (K 2)) (k0_pay20 q mx p l (K 2)) (k0_pay21 q acc mx al p (V 1) (K 2) (V 2))
    (k0_pay22 q (K 3)) k0_pay23 (V 3)

theorem sets1 : insert (1 : Fin 4) {0} = ({0, 1} : Finset (Fin 4)) := by decide
theorem sets2 : insert (2 : Fin 4) {0, 1} = ({0, 1, 2} : Finset (Fin 4)) := by decide
theorem sets3 : insert (3 : Fin 4) {0, 1, 2} = (Finset.univ : Finset (Fin 4)) := by decide

theorem chain_eq (q : Vec Ideal S16x256x64 .f32) (K V : Fin 4 → Vec Ideal S1x16x256x64 .f32) (g : Fin 16) (i : Fin 256)
    (e : Fin 64) (s : Fin 4 → Fin 256 → ℝ) (h : ∀ o j, score q (K o) g i j = s o j) :
    chain q K V (ix3 g i e) = mix (fun p : Fin 4 × Fin 256 => s p.1 p.2) (fun p => V p.1 (ix4 0 g p.2 e)) := by
  have t : ∀ o, ∃ r : ℝ, top (score q (K o) g i) = r := fun o => top_real _ (s o) (h o)
  -- the running maximum after each block
  obtain ⟨μ0, h0⟩ : ∃ r : ℝ, k0_pay7 q k0_pay4 (K 0) (ix3 g i 0) = r := by
    rw [read7, read4, bottom_word, bot_sup_eq]; exact t 0
  obtain ⟨μ1, h1⟩ : ∃ r : ℝ, k0_pay12 q k0_pay4 (K 0) (K 1) (ix3 g i 0) = r := by
    rw [read12]; exact max_real ⟨μ0, h0⟩ (t 1)
  obtain ⟨μ2, h2⟩ : ∃ r : ℝ, k0_pay17 q (k0_pay12 q k0_pay4 (K 0) (K 1)) (K 2) (ix3 g i 0) = r := by
    rw [read17]; exact max_real ⟨μ1, h1⟩ (t 2)
  obtain ⟨μ3, h3⟩ : ∃ r : ℝ,
      lastMax q g i (k0_pay17 q (k0_pay12 q k0_pay4 (K 0) (K 1)) (K 2)) (K 3) = r := max_real ⟨μ2, h2⟩ (t 3)
  unfold chain
  simp only [read1, read21, read20, read19, read18, read15, read14, read13, read10, read9, read8, read5, read4,
    h0, h1, h2, h3, h, bottom_word]
  rw [mass_first s, load_first s (fun o x => V o (ix4 0 g x e)),
    mass_step s (o := 1) (by decide), load_step s (fun o x => V o (ix4 0 g x e)) (o := 1) (by decide), sets1,
    mass_step s (o := 2) (by decide), load_step s (fun o x => V o (ix4 0 g x e)) (o := 2) (by decide), sets2,
    mass_step s (o := 3) (by decide), load_step s (fun o x => V o (ix4 0 g x e)) (o := 3) (by decide), sets3,
    running_eq]

end Cert.Ring

end
-- ==== Proof.Inputs.lean ====
/- What the host gives the kernel and what it makes of the result: the arguments with batch and head merged into one
   axis, keys and values one after the other, and the result split again. -/
module

public import Idealize.ShloMosaic.Lib.Pointwise
public import proofs.«01_k».proof.Proof.Launch
public import proofs.«01_k».proof.Proof.Chain

@[expose] public section

noncomputable section

namespace Cert.Ring

open Cert.KernelIdeal Cert.KernelIdeal.Gen Idealize.ShloMosaic Idealize.ShloMosaic.TcCoe Idealize.ShloMosaic.StableHlo

abbrev Part : Type := (⟨S2x256x8x64, .f32⟩ : BufTy).Contents (Elt Ideal)

/-- An argument with batch and head merged. -/
def merged (x : Part) : (⟨S16x256x64, .f32⟩ : BufTy).Contents (Elt Ideal) :=
  shapeCast S16x256x64 (transpose S2x8x256x64 [0, 2, 1, 3] x transposes_S2x256x8x64_S2x8x256x64_0_2_1_3)
    shapeCasts_S2x8x256x64_S16x256x64

/-- The kernel's result with batch and head split. -/
def split (x : (⟨S16x256x64, .f32⟩ : BufTy).Contents (Elt Ideal)) : Part :=
  transpose S2x256x8x64 [0, 2, 1, 3] (shapeCast S2x8x256x64 x shapeCasts_S16x256x64_S2x8x256x64)
    transposes_S2x8x256x64_S2x256x8x64_0_2_1_3

/-- Batch `b` and head `h` on the merged axis. -/
def both (b : Fin 2) (h : Fin 8) : Fin 16 := ⟨b.val * 8 + h.val, by omega⟩

theorem merged_at (x : Part) (b : Fin 2) (h : Fin 8) (i : Fin 256) (e : Fin 64) :
    merged x (ix3 (both b h) i e) = x (ix4 b i h e) := by
  pointwise [merged]
  congr 1
  have hb : (both b h).val / 8 = b.val := by dsimp only [both]; omega
  have hh : (both b h).val % 8 = h.val := by dsimp only [both]; omega
  simp only [hb, hh]

theorem split_at (x : (⟨S16x256x64, .f32⟩ : BufTy).Contents (Elt Ideal)) (b : Fin 2) (h : Fin 8) (i : Fin 256) (e : Fin 64) :
    split x (ix4 b i h e) = x (ix3 (both b h) i e) := by
  pointwise [split]
  rfl

variable (m : (ℓ : Loc nD τ sig) → Buf (Elt Ideal) ℓ)

theorem queries_eq (c : Dev nD) : V m c main_v2 = merged (m ((c.tc : Thread nD τ).loc main_arg0)) := by
  change StableHlo.after hostOps0 _ (Proc.devRef .tc main_v2) = _
  after_results
  rfl

theorem both_eq (c : Dev nD) : V m c main_v7 = concatenate S32x256x64 0
    [⟨S16x256x64, merged (m ((c.tc : Thread nD τ).loc main_arg1))⟩, ⟨S16x256x64, merged (m ((c.tc : Thread nD τ).loc main_arg2))⟩]
    concatenates_S16x256x64_S16x256x64_S32x256x64_d0 := by
  change StableHlo.after hostOps0 _ (Proc.devRef .tc main_v7) = _
  after_results
  rfl

theorem end_eq (c : Dev nD) : Wend m c main_v10 = split (outVal m c) := by
  rw [← Wn_out m c]
  after_results
  rfl

end Cert.Ring

end
-- ==== Proof.Blocks.lean ====
/- What the scratch buffer's halves hold: the keys and the values of each device, with batch and head merged. -/
module

public import proofs.«01_k».proof.Proof.Inputs

@[expose] public section

noncomputable section

namespace Cert.Ring

open Cert.KernelIdeal Cert.KernelIdeal.Gen Idealize.ShloMosaic Idealize.ShloMosaic.TcCoe

variable (m : (ℓ : Loc nD τ sig) → Buf (Elt Ideal) ℓ)

/-- A half read at an entry is the buffer at that entry, the half's start further along. -/
theorem half_at (off : Fin 4 → ℕ) (hin : ∀ a, off a + S1x16x256x64.size a ≤ S4x32x256x64.size a) (x : S1x16x256x64.Idx)
    (y : S4x32x256x64.Idx) (h : ∀ a, (y a).val = off a + 1 * (x a).val) : half m off hin x = kvAll m y := by
  unfold half
  refine congrArg (kvAll m) (funext fun a => Fin.ext ?_)
  rw [h a]
  rfl

theorem pay2_at (v : Vec Ideal S32x256x64 .f32) (r : Fin 32) (j : Fin 256) (e : Fin 64) :
    k0_pay2 v (ix4 0 r j e) = v (ix3 r j e) := by pointwise [k0_pay2]

theorem kvAll_at (o : Dev nD) (r : Fin 32) (j : Fin 256) (e : Fin 64) :
    kvAll m (ix4 o r j e) = V m o main_v7 (ix3 r j e) := by
  unfold kvAll
  rw [show inBlock (ix4 o r j e) = ix4 0 r j e from eq_ix4 _]
  exact pay2_at _ r j e

/-- The first half of what a device sends is its keys, -/
theorem sent_keys (o : Dev nD) (g : Fin 16) (j : Fin 256) (e : Fin 64) :
    V m o main_v7 (ix3 ⟨g.val, by omega⟩ j e) = merged (m ((o.tc : Thread nD τ).loc main_arg1)) (ix3 g j e) := by
  rw [both_eq]
  generalize merged (m ((o.tc : Thread nD τ).loc main_arg1)) = a
  generalize merged (m ((o.tc : Thread nD τ).loc main_arg2)) = b
  have hg : g.val < 16 := g.isLt
  pointwise []

/-- the second its values. -/
theorem sent_values (o : Dev nD) (g : Fin 16) (j : Fin 256) (e : Fin 64) :
    V m o main_v7 (ix3 ⟨16 + g.val, by omega⟩ j e) = merged (m ((o.tc : Thread nD τ).loc main_arg2)) (ix3 g j e) := by
  rw [both_eq]
  generalize merged (m ((o.tc : Thread nD τ).loc main_arg1)) = a
  generalize merged (m ((o.tc : Thread nD τ).loc main_arg2)) = b
  have hg : ¬ 16 + g.val < 16 := by omega
  pointwise []

/-- The blocks of keys, and of values, in the devices' order. -/
def keys : Fin 4 → Vec Ideal S1x16x256x64 .f32 := ![key0 m, key1 m, key2 m, key3 m]
def values : Fin 4 → Vec Ideal S1x16x256x64 .f32 := ![val0 m, val1 m, val2 m, val3 m]

theorem keys_at (o : Dev nD) (g : Fin 16) (j : Fin 256) (e : Fin 64) :
    keys m o (ix4 0 g j e) = merged (m ((o.tc : Thread nD τ).loc main_arg1)) (ix3 g j e) := by
  rw [← sent_keys, ← kvAll_at]
  fin_cases o
  all_goals
    refine half_at m _ _ _ _ fun a => ?_
    fin_cases a <;> simp [ix4]

theorem values_at (o : Dev nD) (g : Fin 16) (j : Fin 256) (e : Fin 64) :
    values m o (ix4 0 g j e) = merged (m ((o.tc : Thread nD τ).loc main_arg2)) (ix3 g j e) := by
  rw [← sent_values, ← kvAll_at]
  fin_cases o
  all_goals
    refine half_at m _ _ _ _ fun a => ?_
    fin_cases a <;> simp [ix4]

theorem outVal_eq (c : Dev nD) :
    outVal m c = chain (merged (m ((c.tc : Thread nD τ).loc main_arg0))) (keys m) (values m) := by
  rw [← queries_eq, ← read3 (V m c main_v2)]
  rfl

end Cert.Ring

end
-- ==== Proof.Plain.lean ====
/- The reference at one index: the softmax of a query's row of scores, each weight divided by the weights' sum. -/
module

public import Idealize.ShloMosaic.Lib.Pointwise
public import proofs.«01_k».proof.Proof.Gen.ReferenceIdeal
public import proofs.«01_k».proof.Proof.Softmax

@[expose] public section

noncomputable section

namespace Cert.Plain

open Cert.ReferenceIdeal Cert.ReferenceIdeal.Gen Idealize.ShloMosaic Cert.Softmax

abbrev Whole : Type := FVec Ideal S2x1024x8x64 .f32
abbrev Square : Type := FVec Ideal S2x8x1024x1024 .f32

def scores (Q K : Whole) : Square :=
  mulf (Host.dotGeneral dot_S2x1024x8x64_S2x1024x8x64_S2x8x1024x1024_3_3_1_1_02_02 none Q K)
    (broadcastInDim S2x8x1024x1024 ![] bcast_S_S2x8x1024x1024 (constant S_ .f32 0x3E000000#32))

def peak (S : Square) : FVec Ideal S2x8x1024 .f32 :=
  Host.reduce FloatOps.maximumf S (constant S_ .f32 0xFF800000#32) reducesTo_S2x8x1024x1024_S2x8x1024_d3 h_S_

def spread (x : FVec Ideal S2x8x1024 .f32) : Square :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)

def raised (S : Square) : Square := Host.exp (subf S (spread (peak S)))

def weights (P : Square) : Square :=
  Host.divf P (spread (Host.reduceAdd P (constant S_ .f32 0x00000000#32)
    reducesTo_S2x8x1024x1024_S2x8x1024_d3 h_S_))

def result (Q K V : Whole) : Whole :=
  transpose S2x1024x8x64 [0, 3, 1, 2] (Host.dotGeneral dot_S2x1024x8x64_S2x8x1024x1024_S2x8x64x1024_1_3_3_2_02_01 none V
    (weights (raised (scores Q K)))) transposes_S2x8x64x1024_S2x1024x8x64_0_3_1_2

variable (Q K V : Whole) (S P : Square) (b : Fin 2) (h : Fin 8) (i k : Fin 1024) (e : Fin 64)

theorem scores_at : scores Q K (ix4 b h i k)
    = (∑ x : Fin 64, Q (ix4 b i h x) * K (ix4 b k h x)) * Ideal.ofBits FTy.f32 0x3E000000#32 := by pointwise [scores]

theorem peak_at : peak S (ix3 b h i)
    = Finset.univ.fold max (Ideal.ofBits FTy.f32 0xFF800000#32) fun j : Fin 1024 => S (ix4 b h i j) := by pointwise [peak]

theorem raised_at : raised S (ix4 b h i k) = Ideal.exp (S (ix4 b h i k) - peak S (ix3 b h i)) := by
  pointwise [raised, spread]

theorem weights_at : weights P (ix4 b h i k) = Ideal.div (P (ix4 b h i k)) (∑ j : Fin 1024, P (ix4 b h i j)) := by
  pointwise [weights, spread]

theorem result_at : result Q K V (ix4 b i h e)
    = ∑ x : Fin 1024, V (ix4 b x h e) * weights (raised (scores Q K)) (ix4 b h i x) := by pointwise [result]

/-- With real scores, the reference's entry is the weighted mean of the values under the scores' softmax. -/
theorem result_eq (s : Fin 1024 → ℝ) (hs : ∀ j, scores Q K (ix4 b h i j) = s j) :
    result Q K V (ix4 b i h e) = mix s fun j => V (ix4 b j h e) := by
  obtain ⟨μ, hμ⟩ : ∃ r : ℝ, peak (scores Q K) (ix3 b h i) = r := by
    rw [peak_at, show Ideal.ofBits FTy.f32 0xFF800000#32 = ⊥ by simp [Ideal.ofBits, Ideal.ieee]]
    exact fold_max_real _ fun j => ⟨s j, hs j⟩
  simp only [result_at, weights_at, raised_at, hs, hμ]
  exact plain_eq s _ μ

end Cert.Plain

end
-- ==== Proof.Finite.lean ====
/- The precondition, read: every entry of a device's queries and keys is a real number. -/
module

public import Idealize.ShloMosaic.Lib.Pointwise
public import Idealize.ShloMosaic.Lib.ReduceAll
public import proofs.«01_k».proof.Pre_scores_finite_KernelIdeal
public import proofs.«01_k».proof.Pre_scores_finite_ReferenceIdeal

@[expose] public section

noncomputable section

namespace Cert.Finite

open Idealize.ShloMosaic

instance kernelFacts : Cert.Pre_scores_finite_KernelIdeal.Facts where
  bcast_S_S2x256x8x64 := by decide
  reducesTo_S2x256x8x64_S_d0_1_2_3 := by decide
  h_S_ := by decide

instance referenceFacts : Cert.Pre_scores_finite_ReferenceIdeal.Facts where
  bcast_S_S2x1024x8x64 := by decide
  reducesTo_S2x1024x8x64_S_d0_1_2_3 := by decide
  h_S_ := by decide

theorem real_of_abs_lt (x : EReal) (h : max x (-x) < ⊤) : ∃ r : ℝ, x = r := by
  induction x with
  | bot => simp at h
  | top => simp at h
  | coe r => exact ⟨r, rfl⟩

theorem infinity_word : Ideal.ofBits FTy.f32 0x7F800000#32 = ⊤ := by simp [Ideal.ofBits, Ideal.ieee]

theorem andi_one {x y : BitVec 1} (h : IntOp.andi x y = 1#1) : x = 1#1 ∧ y = 1#1 := by
  revert x y; decide

open Cert.Pre_scores_finite_KernelIdeal in
/-- One operand's comparison, at an entry. -/
theorem entry_real (x : FVec Ideal S2x256x8x64 .f32) (i : S2x256x8x64.Idx)
    (h : cmpf .olt (Host.absf x) (broadcastInDim S2x256x8x64 ![] Facts.bcast_S_S2x256x8x64 (constant S_ .f32 0x7F800000#32)) i
      = 1#1) : ∃ r : ℝ, x i = r := by
  have e : Ideal.cmp .olt (max (x i : EReal) (-(x i : EReal))) (Ideal.ofBits .f32 0x7F800000#32) = 1#1 := h
  rw [infinity_word] at e
  refine real_of_abs_lt _ ?_
  by_contra hn
  simp [Ideal.cmp, hn] at e

open Cert.Pre_scores_finite_KernelIdeal in
theorem reals (q k v : FVec Ideal S2x256x8x64 .f32) (h : fn (F := Ideal) q k v = fun _ => 1#1) :
    (∀ i, ∃ r : ℝ, q i = r) ∧ ∀ i, ∃ r : ℝ, k i = r := by
  have hj := congrFun h (fun a => a.elim0)
  dsimp only [fn] at hj
  obtain ⟨hq, hk⟩ := andi_one hj
  haveI : Subsingleton S_.Idx := ⟨fun a b => funext fun x => x.elim0⟩
  exact ⟨fun i => entry_real q i (Host.reduce_andi_all _ _ _ _ _ hq i),
    fun i => entry_real k i (Host.reduce_andi_all _ _ _ _ _ hk i)⟩

end Cert.Finite

end
-- ==== Proof.Join.lean ====
/- The two programs' results, compared at an entry: the kernel's softmax over its four blocks of keys is the reference's
   over all the keys. -/
module

public import proofs.«01_k».proof.Proof.Blocks
public import proofs.«01_k».proof.Proof.Plain
public import proofs.«01_k».proof.Proof.Finite
public import Idealize.ShloMosaic.Lib.Layout

@[expose] public section

noncomputable section

namespace Cert.Join

open Cert.KernelIdeal Cert.KernelIdeal.Gen Idealize.ShloMosaic Idealize.ShloMosaic.TcCoe Cert.Ring Cert.Softmax Cert.Plain

/-- A device and a place within its part of a sequence make a place of the whole. -/
def place : Fin 4 × Fin 256 ≃ Fin 1024 := finProdFinEquiv

/-- Device `c`'s part of a whole array. -/
abbrev partOf (c : Dev nD) (x : Whole) : Part := Layout.block ⟨4, ![2, 256, 8, 64]⟩ ⟨4, ![2, 1024, 8, 64]⟩ 1 4 c x

theorem partOf_at (c : Dev nD) (x : Whole) (b : Fin 2) (i : Fin 256) (h : Fin 8) (e : Fin 64) :
    partOf c x (ix4 b i h e) = x (ix4 b (place (c, i)) h e) := by
  refine congrArg x (funext fun a => Fin.ext ?_)
  rw [Layout.Tiles.idx_val]
  fin_cases a
  · rfl
  · show c.val * 256 + i.val = i.val + 256 * c.val
    omega
  · rfl
  · rfl

/-- A sum of products of reals is a real. -/
theorem dot_real {n : ℕ} (x y : Fin n → EReal) (hx : ∀ e, ∃ r : ℝ, x e = r) (hy : ∀ e, ∃ r : ℝ, y e = r) :
    ∃ r : ℝ, ∑ e, x e * y e = r := by
  choose a ha using hx
  choose b hb using hy
  refine ⟨∑ e, a e * b e, ?_⟩
  rw [coe_sum]
  exact Finset.sum_congr rfl fun e _ => by rw [ha, hb, EReal.coe_mul]

/-- A whole array is real where each device's part is. -/
theorem whole_real (x : Whole) (h : ∀ c i, ∃ r : ℝ, partOf c x i = r) (b : Fin 2) (k : Fin 1024) (g : Fin 8) (e : Fin 64) :
    ∃ r : ℝ, x (ix4 b k g e) = r := by
  obtain ⟨⟨c, i⟩, rfl⟩ := place.surjective k
  rw [← partOf_at c x]
  exact h c _

theorem scores_real (Q K : Whole) (hQ : ∀ c i, ∃ r : ℝ, partOf c Q i = r) (hK : ∀ c i, ∃ r : ℝ, partOf c K i = r)
    (b : Fin 2) (h : Fin 8) (i k : Fin 1024) : ∃ r : ℝ, scores Q K (ix4 b h i k) = r := by
  obtain ⟨w, hw⟩ := scale_word
  obtain ⟨d, hd⟩ := dot_real (fun e : Fin 64 => Q (ix4 b i h e)) (fun e => K (ix4 b k h e))
    (fun e => whole_real Q hQ b i h e) (fun e => whole_real K hK b k h e)
  exact ⟨d * w, by rw [scores_at, hd, hw, EReal.coe_mul]⟩

variable (m : (ℓ : Loc nD τ sig) → Buf (Elt Ideal) ℓ) (Q K V : Whole)

/-- The kernel's result on device `c` is its part of the reference's. -/
theorem result_part (hq : ∀ c : Dev nD, m ((c.tc : Thread nD τ).loc main_arg0) = partOf c Q)
    (hk : ∀ c : Dev nD, m ((c.tc : Thread nD τ).loc main_arg1) = partOf c K)
    (hv : ∀ c : Dev nD, m ((c.tc : Thread nD τ).loc main_arg2) = partOf c V)
    (hQ : ∀ c i, ∃ r : ℝ, partOf c Q i = r) (hK : ∀ c i, ∃ r : ℝ, partOf c K i = r) (c : Dev nD) :
    Wend m c main_v10 = partOf c (result Q K V) := by
  rw [end_eq]
  funext x
  obtain ⟨b, i, h, e, rfl⟩ : ∃ (b : Fin 2) (i : Fin 256) (h : Fin 8) (e : Fin 64), x = ix4 b i h e :=
    ⟨x 0, x 1, x 2, x 3, eq_ix4 x⟩
  choose s hs using scores_real Q K hQ hK b h (place (c, i))
  have hsc : ∀ o j, score (merged (m ((c.tc : Thread nD τ).loc main_arg0))) (keys m o) (both b h) i j
      = s (place (o, j)) := fun o j => by
    rw [← hs, scores_at, score]
    simp only [keys_at, merged_at, hq, hk, partOf_at]
  have hval : (fun p : Fin 4 × Fin 256 => values m p.1 (ix4 0 (both b h) p.2 e))
      = (fun k => V (ix4 b k h e)) ∘ place := funext fun p => by
    rw [values_at, merged_at, hv, partOf_at]
    rfl
  rw [split_at, outVal_eq, chain_eq _ _ _ _ _ _ (fun o j => s (place (o, j))) hsc, partOf_at, result_eq Q K V b h _ e s hs,
    hval]
  exact mix_equiv place s _

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Join
public import Idealize.ShloMosaic.Adequacy
public import Idealize.ShloMosaic.Init

@[expose] public section

noncomputable section

namespace Cert.Proof

open Idealize.ShloMosaic Idealize.ShloMosaic.TcCoe Idealize.SL.Sem

/-- The kernel as printed and its idealization have one text: the calls' table is the same, label by label. -/
theorem calls_eq : (Cert.Kernel.defs₀ (F := Bits)) = Cert.KernelIdeal.defs₀ (F := Bits) :=
  congrArg Defs.onTc (funext fun l => match l with
    | ⟨0, _⟩ => funext fun _ => rfl
    | ⟨_ + 1, h⟩ => absurd h (Nat.not_lt.2 (Nat.le_add_left _ _)))

theorem defs_eq : (Cert.Kernel.defs (F := Bits)) = Cert.KernelIdeal.defs (F := Bits) :=
  congrArg (Idealize.ShloMosaic.Pipeline.defs (Cert.KernelIdeal.pcfgs (F := Bits))) calls_eq

/-- So the run at any float values serves both. -/
theorem frame_kernel : Cert.quiescent_Kernel := fun m ρ _ => by
  rw [defs_eq]
  exact (θ_run Cert.KernelIdeal.defs _ _).mono (fun _ h => ⟨fun c => (h.1 c).2, h.2⟩) (Cert.Ring.run_main (F := Bits) m ρ)

theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The reference has no semaphore at all. -/
theorem frame_reference : Cert.quiescent_ReferenceIdeal := fun m ρ _ =>
  (θ_run Cert.ReferenceIdeal.defs _ _).mono (fun _ h => ⟨fun c => (h c).2, funext fun g => by
    rcases g with ⟨_, s | s⟩ <;> exact s.elim0⟩) (Cert.ReferenceIdeal.Value.run (F := Ideal) m ρ)

/-- With finite queries and keys, the kernel's parts are the reference's result. -/
theorem same_result : Cert.algebraic_KernelIdeal_ReferenceIdeal_pre_scores_finite_KernelIdeal := by
  intro m ρ m' ρ' hpre harg
  refine ⟨Cert.Plain.result (m' (((0 : Dev Cert.ReferenceIdeal.nD).tc : Thread Cert.ReferenceIdeal.nD Cert.ReferenceIdeal.τ).loc
        Cert.ReferenceIdeal.main_arg0))
      (m' (((0 : Dev Cert.ReferenceIdeal.nD).tc : Thread Cert.ReferenceIdeal.nD Cert.ReferenceIdeal.τ).loc
        Cert.ReferenceIdeal.main_arg1))
      (m' (((0 : Dev Cert.ReferenceIdeal.nD).tc : Thread Cert.ReferenceIdeal.nD Cert.ReferenceIdeal.τ).loc
        Cert.ReferenceIdeal.main_arg2)), ?_, ?_⟩
  · have hr := fun c => Cert.Finite.reals _ _ _ (hpre c)
    refine (θ_run Cert.KernelIdeal.defs _ _).mono (fun _ h c => ⟨(h.1 c).1.trans ?_, (h.1 c).2⟩)
      (Cert.Ring.run_main (F := Ideal) m ρ)
    refine Cert.Join.result_part m _ _ _ (fun c => (harg c).1) (fun c => (harg c).2.1) (fun c => (harg c).2.2)
      (fun c => ?_) (fun c => ?_) c
    · have e := (harg c).1
      exact fun i => let ⟨r, h⟩ := (hr c).1 i; ⟨r, (congrFun e i).symm.trans h⟩
    · have e := (harg c).2.1
      exact fun i => let ⟨r, h⟩ := (hr c).2 i; ⟨r, (congrFun e i).symm.trans h⟩
  · exact (θ_run Cert.ReferenceIdeal.defs _ _).mono (fun _ h => ⟨(h 0).1, (h 0).2⟩)
      (Cert.ReferenceIdeal.Value.run (F := Ideal) m' ρ')

theorem claim : Cert.Claim := ⟨Cert.Kernel.Gen.facts, Cert.KernelIdeal.Gen.facts, Cert.ReferenceIdeal.Gen.facts,
  Cert.Finite.kernelFacts, Cert.Finite.referenceFacts,
  frame_kernel, frame_ideal, fun m ρ _ => frame_ideal m ρ trivial, frame_reference,
  fun m ρ _ => frame_reference m ρ trivial, trivial, same_result⟩

end Cert.Proof

end
